-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x128 : Shape := ⟨2, ![8192, 128]⟩
abbrev S32 : Shape := ⟨1, ![32]⟩
abbrev S_ : Shape := ⟨0, ![]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S2 : Shape := ⟨1, ![2]⟩
abbrev S33 : Shape := ⟨1, ![33]⟩
abbrev S2x256x8192 : Shape := ⟨3, ![2, 256, 8192]⟩
abbrev S1x256x8192 : Shape := ⟨3, ![1, 256, 8192]⟩
abbrev S256x128 : Shape := ⟨2, ![256, 128]⟩

abbrev nBuf : Space → Nat
  | .hbm => 146
  | .vmem => 5
  | .smem => 1
  | _ => 0

abbrev hbmTy0_0 (i : Nat) : BufTy := match i % 128 with
  | 0 => ⟨S256x8192, .f32⟩
  | 1 => ⟨S8192x128, .f32⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S_, .i32⟩
  | 70 => ⟨S_, .i32⟩
  | 71 => ⟨S16, .i32⟩
  | 72 => ⟨S16, .i32⟩
  | 73 => ⟨S16, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i1⟩
  | 88 => ⟨S_, .i32⟩
  | 89 => ⟨S_, .i1⟩
  | 90 => ⟨S16, .i1⟩
  | 91 => ⟨S16, .i1⟩
  | 92 => ⟨S16, .i1⟩
  | 93 => ⟨S16, .i32⟩
  | 94 => ⟨S16, .i32⟩
  | 95 => ⟨S16, .i32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S16x1, .i32⟩
  | 104 => ⟨S16, .i32⟩
  | 105 => ⟨S_, .i32⟩
  | 106 => ⟨S_, .i32⟩
  | 107 => ⟨S15, .i32⟩
  | 108 => ⟨S15, .i32⟩
  | 109 => ⟨S15, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S15, .i32⟩
  | 117 => ⟨S15, .i32⟩
  | 118 => ⟨S_, .i32⟩
  | 119 => ⟨S15, .i32⟩
  | 120 => ⟨S15, .i1⟩
  | 121 => ⟨S_, .i32⟩
  | 122 => ⟨S15, .i32⟩
  | 123 => ⟨S15, .i1⟩
  | 124 => ⟨S_, .i32⟩
  | 125 => ⟨S_, .i1⟩
  | 126 => ⟨S15, .i1⟩
  | 127 => ⟨S15, .i1⟩
  | _ => ⟨S256x8192, .f32⟩

abbrev hbmTy0_1 (i : Nat) : BufTy := match i % 128 with
  | 0 => ⟨S15, .i1⟩
  | 1 => ⟨S15, .i32⟩
  | 2 => ⟨S15, .i32⟩
  | 3 => ⟨S15, .i32⟩
  | 4 => ⟨S_, .i32⟩
  | 5 => ⟨S15, .i32⟩
  | 6 => ⟨S15, .i1⟩
  | 7 => ⟨S_, .i32⟩
  | 8 => ⟨S15, .i32⟩
  | 9 => ⟨S15, .i32⟩
  | 10 => ⟨S15, .i32⟩
  | 11 => ⟨S15x1, .i32⟩
  | 12 => ⟨S15, .i32⟩
  | 13 => ⟨S1, .i32⟩
  | 14 => ⟨S1, .i32⟩
  | 15 => ⟨S2, .i32⟩
  | 16 => ⟨S33, .i32⟩
  | 17 => ⟨S8192x128, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S8192x128, .f32⟩
  | .local _ .vmem, ⟨2, _⟩ => ⟨S8192x128, .f32⟩
  | .local _ .vmem, ⟨3, _⟩ => ⟨S2x256x8192, .f32⟩
  | .local _ .vmem, ⟨4, _⟩ => ⟨S2x256x8192, .f32⟩
  | .local _ .smem, ⟨0, _⟩ => ⟨S33, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_14 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v28 : Ref sig .tc := ⟨.hbm, 95, rfl⟩
abbrev main_c_15 : Ref sig .tc := ⟨.hbm, 96, rfl⟩
abbrev main_v29 : Ref sig .tc := ⟨.hbm, 97, rfl⟩
abbrev main_v30 : Ref sig .tc := ⟨.hbm, 98, rfl⟩
abbrev main_c_16 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_c_17 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_c_18 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v40 : Ref sig .tc := ⟨.hbm, 131, rfl⟩
abbrev main_c_19 : Ref sig .tc := ⟨.hbm, 132, rfl⟩
abbrev main_v41 : Ref sig .tc := ⟨.hbm, 133, rfl⟩
abbrev main_v42 : Ref sig .tc := ⟨.hbm, 134, rfl⟩
abbrev main_c_20 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_dev3 (v4 : BitVec 32) : Nat :=
  let c0_i32_9 : BitVec 32 := 0#32
  let c1_i32_8 : BitVec 32 := 1#32
  let v10 : BitVec 32 := Scalar.muli v4 c1_i32_8
  let v11 : BitVec 32 := Scalar.addi c0_i32_9 v10
  v11.toNat
def k0_dev4 (v3 : BitVec 32) : Nat :=
  let c0_i32_16 : BitVec 32 := 0#32
  let c1_i32_15 : BitVec 32 := 1#32
  let v18 : BitVec 32 := Scalar.muli v3 c1_i32_15
  let v19 : BitVec 32 := Scalar.addi c0_i32_16 v18
  v19.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v31 : BitVec 32 := Scalar.muli v2 c256_i32
  let v32 : Index := Scalar.indexCast v31
  let c0_23 : Index := 0#32
  ![v32.toNat, 0]
def k0_dev5 (v3 : BitVec 32) : Nat :=
  let c0_i32_52 : BitVec 32 := 0#32
  let c1_i32_51 : BitVec 32 := 1#32
  let v54 : BitVec 32 := Scalar.muli v3 c1_i32_51
  let v55 : BitVec 32 := Scalar.addi c0_i32_52 v54
  v55.toNat
def k0_dev6 (v4 : BitVec 32) : Nat :=
  let c0_i32_55 : BitVec 32 := 0#32
  let c1_i32_54 : BitVec 32 := 1#32
  let v56 : BitVec 32 := Scalar.muli v4 c1_i32_54
  let v57 : BitVec 32 := Scalar.addi c0_i32_55 v56
  v57.toNat
def k0_dev7 (v4 : BitVec 32) : Nat :=
  let c0_i32_65 : BitVec 32 := 0#32
  let c1_i32_64 : BitVec 32 := 1#32
  let v58 : BitVec 32 := Scalar.muli v4 c1_i32_64
  let v59 : BitVec 32 := Scalar.addi c0_i32_65 v58
  v59.toNat
def k0_dev8 (v3 : BitVec 32) : Nat :=
  let c0_i32_75 : BitVec 32 := 0#32
  let c1_i32_74 : BitVec 32 := 1#32
  let v68 : BitVec 32 := Scalar.muli v3 c1_i32_74
  let v69 : BitVec 32 := Scalar.addi c0_i32_75 v68
  v69.toNat
def k0_off2 (v78 : BitVec 32) : Fin 2 → Nat :=
  let c256_i32_86 : BitVec 32 := 256#32
  let v84 : BitVec 32 := Scalar.muli v78 c256_i32_86
  let v85 : Index := Scalar.indexCast v84
  let c0_87 : Index := 0#32
  ![v85.toNat, 0]

def k0_chk3 (v78 : BitVec 32) : Prop :=
  (∀ a, (k0_off2 v78) a + S256x128.size a ≤ S8192x128.size a)
theorem k0_off2_inb : ∀ (v78 : BitVec 32) (k0_hw3 : k0_chk3 v78), ∀ a, (k0_off2 v78) a + S256x128.size a ≤ S8192x128.size a := fun v78 k0_hw3 => k0_hw3

def k0_off3 (v87 : BitVec 32) : Fin 2 → Nat :=
  let c256_i32_94 : BitVec 32 := 256#32
  let v93 : BitVec 32 := Scalar.muli v87 c256_i32_94
  let v94 : Index := Scalar.indexCast v93
  let c0_95 : Index := 0#32
  ![v94.toNat, 0]

def k0_chk4 (v87 : BitVec 32) : Prop :=
  (∀ a, (k0_off3 v87) a + S256x128.size a ≤ S8192x128.size a)
theorem k0_off3_inb : ∀ (v87 : BitVec 32) (k0_hw4 : k0_chk4 v87), ∀ a, (k0_off3 v87) a + S256x128.size a ≤ S8192x128.size a := fun v87 k0_hw4 => k0_hw4

def k0_dev9 (v3 : BitVec 32) : Nat :=
  let c0_i32_136 : BitVec 32 := 0#32
  let c1_i32_135 : BitVec 32 := 1#32
  let v124 : BitVec 32 := Scalar.muli v3 c1_i32_135
  let v125 : BitVec 32 := Scalar.addi c0_i32_136 v124
  v125.toNat
def k0_dev10 (v4 : BitVec 32) : Nat :=
  let c0_i32_139 : BitVec 32 := 0#32
  let c1_i32_138 : BitVec 32 := 1#32
  let v126 : BitVec 32 := Scalar.muli v4 c1_i32_138
  let v127 : BitVec 32 := Scalar.addi c0_i32_139 v126
  v127.toNat
def k0_dev11 (v4 : BitVec 32) : Nat :=
  let c0_i32_149 : BitVec 32 := 0#32
  let c1_i32_148 : BitVec 32 := 1#32
  let v128 : BitVec 32 := Scalar.muli v4 c1_i32_148
  let v129 : BitVec 32 := Scalar.addi c0_i32_149 v128
  v129.toNat
def k0_dev12 (v3 : BitVec 32) : Nat :=
  let c0_i32_159 : BitVec 32 := 0#32
  let c1_i32_158 : BitVec 32 := 1#32
  let v138 : BitVec 32 := Scalar.muli v3 c1_i32_158
  let v139 : BitVec 32 := Scalar.addi c0_i32_159 v138
  v139.toNat
def k0_off4 (v148 : BitVec 32) : Fin 2 → Nat :=
  let c256_i32_170 : BitVec 32 := 256#32
  let v154 : BitVec 32 := Scalar.muli v148 c256_i32_170
  let v155 : Index := Scalar.indexCast v154
  let c0_171 : Index := 0#32
  ![v155.toNat, 0]

def k0_chk5 (v148 : BitVec 32) : Prop :=
  (∀ a, (k0_off4 v148) a + S256x128.size a ≤ S8192x128.size a)
theorem k0_off4_inb : ∀ (v148 : BitVec 32) (k0_hw5 : k0_chk5 v148), ∀ a, (k0_off4 v148) a + S256x128.size a ≤ S8192x128.size a := fun v148 k0_hw5 => k0_hw5

def k0_off5 (v157 : BitVec 32) : Fin 2 → Nat :=
  let c256_i32_178 : BitVec 32 := 256#32
  let v163 : BitVec 32 := Scalar.muli v157 c256_i32_178
  let v164 : Index := Scalar.indexCast v163
  let c0_179 : Index := 0#32
  ![v164.toNat, 0]

def k0_chk6 (v157 : BitVec 32) : Prop :=
  (∀ a, (k0_off5 v157) a + S256x128.size a ≤ S8192x128.size a)
theorem k0_off5_inb : ∀ (v157 : BitVec 32) (k0_hw6 : k0_chk6 v157), ∀ a, (k0_off5 v157) a + S256x128.size a ≤ S8192x128.size a := fun v157 k0_hw6 => k0_hw6

def k0_dev13 (v3 : BitVec 32) : Nat :=
  let c0_i32_220 : BitVec 32 := 0#32
  let c1_i32_219 : BitVec 32 := 1#32
  let v194 : BitVec 32 := Scalar.muli v3 c1_i32_219
  let v195 : BitVec 32 := Scalar.addi c0_i32_220 v194
  v195.toNat
def k0_dev14 (v4 : BitVec 32) : Nat :=
  let c0_i32_223 : BitVec 32 := 0#32
  let c1_i32_222 : BitVec 32 := 1#32
  let v196 : BitVec 32 := Scalar.muli v4 c1_i32_222
  let v197 : BitVec 32 := Scalar.addi c0_i32_223 v196
  v197.toNat
def k0_dev15 (v4 : BitVec 32) : Nat :=
  let c0_i32_233 : BitVec 32 := 0#32
  let c1_i32_232 : BitVec 32 := 1#32
  let v198 : BitVec 32 := Scalar.muli v4 c1_i32_232
  let v199 : BitVec 32 := Scalar.addi c0_i32_233 v198
  v199.toNat
def k0_dev16 (v3 : BitVec 32) : Nat :=
  let c0_i32_243 : BitVec 32 := 0#32
  let c1_i32_242 : BitVec 32 := 1#32
  let v208 : BitVec 32 := Scalar.muli v3 c1_i32_242
  let v209 : BitVec 32 := Scalar.addi c0_i32_243 v208
  v209.toNat
def k0_off6 (v218 : BitVec 32) : Fin 2 → Nat :=
  let c256_i32_254 : BitVec 32 := 256#32
  let v224 : BitVec 32 := Scalar.muli v218 c256_i32_254
  let v225 : Index := Scalar.indexCast v224
  let c0_255 : Index := 0#32
  ![v225.toNat, 0]

def k0_chk7 (v218 : BitVec 32) : Prop :=
  (∀ a, (k0_off6 v218) a + S256x128.size a ≤ S8192x128.size a)
theorem k0_off6_inb : ∀ (v218 : BitVec 32) (k0_hw7 : k0_chk7 v218), ∀ a, (k0_off6 v218) a + S256x128.size a ≤ S8192x128.size a := fun v218 k0_hw7 => k0_hw7

def k0_off7 (v227 : BitVec 32) : Fin 2 → Nat :=
  let c256_i32_262 : BitVec 32 := 256#32
  let v233 : BitVec 32 := Scalar.muli v227 c256_i32_262
  let v234 : Index := Scalar.indexCast v233
  let c0_263 : Index := 0#32
  ![v234.toNat, 0]

def k0_chk8 (v227 : BitVec 32) : Prop :=
  (∀ a, (k0_off7 v227) a + S256x128.size a ≤ S8192x128.size a)
theorem k0_off7_inb : ∀ (v227 : BitVec 32) (k0_hw8 : k0_chk8 v227), ∀ a, (k0_off7 v227) a + S256x128.size a ≤ S8192x128.size a := fun v227 k0_hw8 => k0_hw8

def k0_dev17 (v3 : BitVec 32) : Nat :=
  let c0_i32_304 : BitVec 32 := 0#32
  let c1_i32_303 : BitVec 32 := 1#32
  let v264 : BitVec 32 := Scalar.muli v3 c1_i32_303
  let v265 : BitVec 32 := Scalar.addi c0_i32_304 v264
  v265.toNat
def k0_dev18 (v4 : BitVec 32) : Nat :=
  let c0_i32_307 : BitVec 32 := 0#32
  let c1_i32_306 : BitVec 32 := 1#32
  let v266 : BitVec 32 := Scalar.muli v4 c1_i32_306
  let v267 : BitVec 32 := Scalar.addi c0_i32_307 v266
  v267.toNat
def k0_dev19 (v4 : BitVec 32) : Nat :=
  let c0_i32_317 : BitVec 32 := 0#32
  let c1_i32_316 : BitVec 32 := 1#32
  let v268 : BitVec 32 := Scalar.muli v4 c1_i32_316
  let v269 : BitVec 32 := Scalar.addi c0_i32_317 v268
  v269.toNat
def k0_dev20 (v3 : BitVec 32) : Nat :=
  let c0_i32_327 : BitVec 32 := 0#32
  let c1_i32_326 : BitVec 32 := 1#32
  let v278 : BitVec 32 := Scalar.muli v3 c1_i32_326
  let v279 : BitVec 32 := Scalar.addi c0_i32_327 v278
  v279.toNat
def k0_off8 (v288 : BitVec 32) : Fin 2 → Nat :=
  let c256_i32_338 : BitVec 32 := 256#32
  let v294 : BitVec 32 := Scalar.muli v288 c256_i32_338
  let v295 : Index := Scalar.indexCast v294
  let c0_339 : Index := 0#32
  ![v295.toNat, 0]

def k0_chk9 (v288 : BitVec 32) : Prop :=
  (∀ a, (k0_off8 v288) a + S256x128.size a ≤ S8192x128.size a)
theorem k0_off8_inb : ∀ (v288 : BitVec 32) (k0_hw9 : k0_chk9 v288), ∀ a, (k0_off8 v288) a + S256x128.size a ≤ S8192x128.size a := fun v288 k0_hw9 => k0_hw9

def k0_off9 (v297 : BitVec 32) : Fin 2 → Nat :=
  let c256_i32_346 : BitVec 32 := 256#32
  let v303 : BitVec 32 := Scalar.muli v297 c256_i32_346
  let v304 : Index := Scalar.indexCast v303
  let c0_347 : Index := 0#32
  ![v304.toNat, 0]

def k0_chk10 (v297 : BitVec 32) : Prop :=
  (∀ a, (k0_off9 v297) a + S256x128.size a ≤ S8192x128.size a)
theorem k0_off9_inb : ∀ (v297 : BitVec 32) (k0_hw10 : k0_chk10 v297), ∀ a, (k0_off9 v297) a + S256x128.size a ≤ S8192x128.size a := fun v297 k0_hw10 => k0_hw10

def k0_dev21 (v3 : BitVec 32) : Nat :=
  let c0_i32_388 : BitVec 32 := 0#32
  let c1_i32_387 : BitVec 32 := 1#32
  let v334 : BitVec 32 := Scalar.muli v3 c1_i32_387
  let v335 : BitVec 32 := Scalar.addi c0_i32_388 v334
  v335.toNat
def k0_dev22 (v4 : BitVec 32) : Nat :=
  let c0_i32_391 : BitVec 32 := 0#32
  let c1_i32_390 : BitVec 32 := 1#32
  let v336 : BitVec 32 := Scalar.muli v4 c1_i32_390
  let v337 : BitVec 32 := Scalar.addi c0_i32_391 v336
  v337.toNat
def k0_dev23 (v4 : BitVec 32) : Nat :=
  let c0_i32_401 : BitVec 32 := 0#32
  let c1_i32_400 : BitVec 32 := 1#32
  let v338 : BitVec 32 := Scalar.muli v4 c1_i32_400
  let v339 : BitVec 32 := Scalar.addi c0_i32_401 v338
  v339.toNat
def k0_dev24 (v3 : BitVec 32) : Nat :=
  let c0_i32_411 : BitVec 32 := 0#32
  let c1_i32_410 : BitVec 32 := 1#32
  let v348 : BitVec 32 := Scalar.muli v3 c1_i32_410
  let v349 : BitVec 32 := Scalar.addi c0_i32_411 v348
  v349.toNat
def k0_off10 (v358 : BitVec 32) : Fin 2 → Nat :=
  let c256_i32_422 : BitVec 32 := 256#32
  let v364 : BitVec 32 := Scalar.muli v358 c256_i32_422
  let v365 : Index := Scalar.indexCast v364
  let c0_423 : Index := 0#32
  ![v365.toNat, 0]

def k0_chk11 (v358 : BitVec 32) : Prop :=
  (∀ a, (k0_off10 v358) a + S256x128.size a ≤ S8192x128.size a)
theorem k0_off10_inb : ∀ (v358 : BitVec 32) (k0_hw11 : k0_chk11 v358), ∀ a, (k0_off10 v358) a + S256x128.size a ≤ S8192x128.size a := fun v358 k0_hw11 => k0_hw11

def k0_off11 (v367 : BitVec 32) : Fin 2 → Nat :=
  let c256_i32_430 : BitVec 32 := 256#32
  let v373 : BitVec 32 := Scalar.muli v367 c256_i32_430
  let v374 : Index := Scalar.indexCast v373
  let c0_431 : Index := 0#32
  ![v374.toNat, 0]

def k0_chk12 (v367 : BitVec 32) : Prop :=
  (∀ a, (k0_off11 v367) a + S256x128.size a ≤ S8192x128.size a)
theorem k0_off11_inb : ∀ (v367 : BitVec 32) (k0_hw12 : k0_chk12 v367), ∀ a, (k0_off11 v367) a + S256x128.size a ≤ S8192x128.size a := fun v367 k0_hw12 => k0_hw12

def k0_dev25 (v3 : BitVec 32) : Nat :=
  let c0_i32_472 : BitVec 32 := 0#32
  let c1_i32_471 : BitVec 32 := 1#32
  let v404 : BitVec 32 := Scalar.muli v3 c1_i32_471
  let v405 : BitVec 32 := Scalar.addi c0_i32_472 v404
  v405.toNat
def k0_dev26 (v4 : BitVec 32) : Nat :=
  let c0_i32_475 : BitVec 32 := 0#32
  let c1_i32_474 : BitVec 32 := 1#32
  let v406 : BitVec 32 := Scalar.muli v4 c1_i32_474
  let v407 : BitVec 32 := Scalar.addi c0_i32_475 v406
  v407.toNat
def k0_dev27 (v4 : BitVec 32) : Nat :=
  let c0_i32_485 : BitVec 32 := 0#32
  let c1_i32_484 : BitVec 32 := 1#32
  let v408 : BitVec 32 := Scalar.muli v4 c1_i32_484
  let v409 : BitVec 32 := Scalar.addi c0_i32_485 v408
  v409.toNat
def k0_dev28 (v3 : BitVec 32) : Nat :=
  let c0_i32_495 : BitVec 32 := 0#32
  let c1_i32_494 : BitVec 32 := 1#32
  let v418 : BitVec 32 := Scalar.muli v3 c1_i32_494
  let v419 : BitVec 32 := Scalar.addi c0_i32_495 v418
  v419.toNat
def k0_off12 (v428 : BitVec 32) : Fin 2 → Nat :=
  let c256_i32_506 : BitVec 32 := 256#32
  let v434 : BitVec 32 := Scalar.muli v428 c256_i32_506
  let v435 : Index := Scalar.indexCast v434
  let c0_507 : Index := 0#32
  ![v435.toNat, 0]

def k0_chk13 (v428 : BitVec 32) : Prop :=
  (∀ a, (k0_off12 v428) a + S256x128.size a ≤ S8192x128.size a)
theorem k0_off12_inb : ∀ (v428 : BitVec 32) (k0_hw13 : k0_chk13 v428), ∀ a, (k0_off12 v428) a + S256x128.size a ≤ S8192x128.size a := fun v428 k0_hw13 => k0_hw13

def k0_off13 (v437 : BitVec 32) : Fin 2 → Nat :=
  let c256_i32_514 : BitVec 32 := 256#32
  let v443 : BitVec 32 := Scalar.muli v437 c256_i32_514
  let v444 : Index := Scalar.indexCast v443
  let c0_515 : Index := 0#32
  ![v444.toNat, 0]

def k0_chk14 (v437 : BitVec 32) : Prop :=
  (∀ a, (k0_off13 v437) a + S256x128.size a ≤ S8192x128.size a)
theorem k0_off13_inb : ∀ (v437 : BitVec 32) (k0_hw14 : k0_chk14 v437), ∀ a, (k0_off13 v437) a + S256x128.size a ≤ S8192x128.size a := fun v437 k0_hw14 => k0_hw14

def k0_dev29 (v3 : BitVec 32) : Nat :=
  let c0_i32_556 : BitVec 32 := 0#32
  let c1_i32_555 : BitVec 32 := 1#32
  let v474 : BitVec 32 := Scalar.muli v3 c1_i32_555
  let v475 : BitVec 32 := Scalar.addi c0_i32_556 v474
  v475.toNat
def k0_dev30 (v4 : BitVec 32) : Nat :=
  let c0_i32_559 : BitVec 32 := 0#32
  let c1_i32_558 : BitVec 32 := 1#32
  let v476 : BitVec 32 := Scalar.muli v4 c1_i32_558
  let v477 : BitVec 32 := Scalar.addi c0_i32_559 v476
  v477.toNat
def k0_dev31 (v4 : BitVec 32) : Nat :=
  let c0_i32_569 : BitVec 32 := 0#32
  let c1_i32_568 : BitVec 32 := 1#32
  let v478 : BitVec 32 := Scalar.muli v4 c1_i32_568
  let v479 : BitVec 32 := Scalar.addi c0_i32_569 v478
  v479.toNat
def k0_dev32 (v3 : BitVec 32) : Nat :=
  let c0_i32_579 : BitVec 32 := 0#32
  let c1_i32_578 : BitVec 32 := 1#32
  let v488 : BitVec 32 := Scalar.muli v3 c1_i32_578
  let v489 : BitVec 32 := Scalar.addi c0_i32_579 v488
  v489.toNat
def k0_off14 (v498 : BitVec 32) : Fin 2 → Nat :=
  let c256_i32_590 : BitVec 32 := 256#32
  let v504 : BitVec 32 := Scalar.muli v498 c256_i32_590
  let v505 : Index := Scalar.indexCast v504
  let c0_591 : Index := 0#32
  ![v505.toNat, 0]

def k0_chk15 (v498 : BitVec 32) : Prop :=
  (∀ a, (k0_off14 v498) a + S256x128.size a ≤ S8192x128.size a)
theorem k0_off14_inb : ∀ (v498 : BitVec 32) (k0_hw15 : k0_chk15 v498), ∀ a, (k0_off14 v498) a + S256x128.size a ≤ S8192x128.size a := fun v498 k0_hw15 => k0_hw15

def k0_off15 (v507 : BitVec 32) : Fin 2 → Nat :=
  let c256_i32_598 : BitVec 32 := 256#32
  let v513 : BitVec 32 := Scalar.muli v507 c256_i32_598
  let v514 : Index := Scalar.indexCast v513
  let c0_599 : Index := 0#32
  ![v514.toNat, 0]

def k0_chk16 (v507 : BitVec 32) : Prop :=
  (∀ a, (k0_off15 v507) a + S256x128.size a ≤ S8192x128.size a)
theorem k0_off15_inb : ∀ (v507 : BitVec 32) (k0_hw16 : k0_chk16 v507), ∀ a, (k0_off15 v507) a + S256x128.size a ≤ S8192x128.size a := fun v507 k0_hw16 => k0_hw16

def k0_dev33 (v3 : BitVec 32) : Nat :=
  let c0_i32_640 : BitVec 32 := 0#32
  let c1_i32_639 : BitVec 32 := 1#32
  let v544 : BitVec 32 := Scalar.muli v3 c1_i32_639
  let v545 : BitVec 32 := Scalar.addi c0_i32_640 v544
  v545.toNat
def k0_dev34 (v4 : BitVec 32) : Nat :=
  let c0_i32_643 : BitVec 32 := 0#32
  let c1_i32_642 : BitVec 32 := 1#32
  let v546 : BitVec 32 := Scalar.muli v4 c1_i32_642
  let v547 : BitVec 32 := Scalar.addi c0_i32_643 v546
  v547.toNat
def k0_dev35 (v4 : BitVec 32) : Nat :=
  let c0_i32_653 : BitVec 32 := 0#32
  let c1_i32_652 : BitVec 32 := 1#32
  let v548 : BitVec 32 := Scalar.muli v4 c1_i32_652
  let v549 : BitVec 32 := Scalar.addi c0_i32_653 v548
  v549.toNat
def k0_dev36 (v3 : BitVec 32) : Nat :=
  let c0_i32_663 : BitVec 32 := 0#32
  let c1_i32_662 : BitVec 32 := 1#32
  let v558 : BitVec 32 := Scalar.muli v3 c1_i32_662
  let v559 : BitVec 32 := Scalar.addi c0_i32_663 v558
  v559.toNat
def k0_off16 (v568 : BitVec 32) : Fin 2 → Nat :=
  let c256_i32_674 : BitVec 32 := 256#32
  let v574 : BitVec 32 := Scalar.muli v568 c256_i32_674
  let v575 : Index := Scalar.indexCast v574
  let c0_675 : Index := 0#32
  ![v575.toNat, 0]

def k0_chk17 (v568 : BitVec 32) : Prop :=
  (∀ a, (k0_off16 v568) a + S256x128.size a ≤ S8192x128.size a)
theorem k0_off16_inb : ∀ (v568 : BitVec 32) (k0_hw17 : k0_chk17 v568), ∀ a, (k0_off16 v568) a + S256x128.size a ≤ S8192x128.size a := fun v568 k0_hw17 => k0_hw17

def k0_off17 (v577 : BitVec 32) : Fin 2 → Nat :=
  let c256_i32_682 : BitVec 32 := 256#32
  let v583 : BitVec 32 := Scalar.muli v577 c256_i32_682
  let v584 : Index := Scalar.indexCast v583
  let c0_683 : Index := 0#32
  ![v584.toNat, 0]

def k0_chk18 (v577 : BitVec 32) : Prop :=
  (∀ a, (k0_off17 v577) a + S256x128.size a ≤ S8192x128.size a)
theorem k0_off17_inb : ∀ (v577 : BitVec 32) (k0_hw18 : k0_chk18 v577), ∀ a, (k0_off17 v577) a + S256x128.size a ≤ S8192x128.size a := fun v577 k0_hw18 => k0_hw18

def k0_dev37 (v3 : BitVec 32) : Nat :=
  let c0_i32_724 : BitVec 32 := 0#32
  let c1_i32_723 : BitVec 32 := 1#32
  let v614 : BitVec 32 := Scalar.muli v3 c1_i32_723
  let v615 : BitVec 32 := Scalar.addi c0_i32_724 v614
  v615.toNat
def k0_dev38 (v4 : BitVec 32) : Nat :=
  let c0_i32_727 : BitVec 32 := 0#32
  let c1_i32_726 : BitVec 32 := 1#32
  let v616 : BitVec 32 := Scalar.muli v4 c1_i32_726
  let v617 : BitVec 32 := Scalar.addi c0_i32_727 v616
  v617.toNat
def k0_dev39 (v4 : BitVec 32) : Nat :=
  let c0_i32_737 : BitVec 32 := 0#32
  let c1_i32_736 : BitVec 32 := 1#32
  let v618 : BitVec 32 := Scalar.muli v4 c1_i32_736
  let v619 : BitVec 32 := Scalar.addi c0_i32_737 v618
  v619.toNat
def k0_dev40 (v3 : BitVec 32) : Nat :=
  let c0_i32_747 : BitVec 32 := 0#32
  let c1_i32_746 : BitVec 32 := 1#32
  let v628 : BitVec 32 := Scalar.muli v3 c1_i32_746
  let v629 : BitVec 32 := Scalar.addi c0_i32_747 v628
  v629.toNat
def k0_off18 (v638 : BitVec 32) : Fin 2 → Nat :=
  let c256_i32_758 : BitVec 32 := 256#32
  let v644 : BitVec 32 := Scalar.muli v638 c256_i32_758
  let v645 : Index := Scalar.indexCast v644
  let c0_759 : Index := 0#32
  ![v645.toNat, 0]

def k0_chk19 (v638 : BitVec 32) : Prop :=
  (∀ a, (k0_off18 v638) a + S256x128.size a ≤ S8192x128.size a)
theorem k0_off18_inb : ∀ (v638 : BitVec 32) (k0_hw19 : k0_chk19 v638), ∀ a, (k0_off18 v638) a + S256x128.size a ≤ S8192x128.size a := fun v638 k0_hw19 => k0_hw19

def k0_off19 (v647 : BitVec 32) : Fin 2 → Nat :=
  let c256_i32_766 : BitVec 32 := 256#32
  let v653 : BitVec 32 := Scalar.muli v647 c256_i32_766
  let v654 : Index := Scalar.indexCast v653
  let c0_767 : Index := 0#32
  ![v654.toNat, 0]

def k0_chk20 (v647 : BitVec 32) : Prop :=
  (∀ a, (k0_off19 v647) a + S256x128.size a ≤ S8192x128.size a)
theorem k0_off19_inb : ∀ (v647 : BitVec 32) (k0_hw20 : k0_chk20 v647), ∀ a, (k0_off19 v647) a + S256x128.size a ≤ S8192x128.size a := fun v647 k0_hw20 => k0_hw20

def k0_dev41 (v3 : BitVec 32) : Nat :=
  let c0_i32_808 : BitVec 32 := 0#32
  let c1_i32_807 : BitVec 32 := 1#32
  let v684 : BitVec 32 := Scalar.muli v3 c1_i32_807
  let v685 : BitVec 32 := Scalar.addi c0_i32_808 v684
  v685.toNat
def k0_dev42 (v4 : BitVec 32) : Nat :=
  let c0_i32_811 : BitVec 32 := 0#32
  let c1_i32_810 : BitVec 32 := 1#32
  let v686 : BitVec 32 := Scalar.muli v4 c1_i32_810
  let v687 : BitVec 32 := Scalar.addi c0_i32_811 v686
  v687.toNat
def k0_dev43 (v4 : BitVec 32) : Nat :=
  let c0_i32_821 : BitVec 32 := 0#32
  let c1_i32_820 : BitVec 32 := 1#32
  let v688 : BitVec 32 := Scalar.muli v4 c1_i32_820
  let v689 : BitVec 32 := Scalar.addi c0_i32_821 v688
  v689.toNat
def k0_dev44 (v3 : BitVec 32) : Nat :=
  let c0_i32_831 : BitVec 32 := 0#32
  let c1_i32_830 : BitVec 32 := 1#32
  let v698 : BitVec 32 := Scalar.muli v3 c1_i32_830
  let v699 : BitVec 32 := Scalar.addi c0_i32_831 v698
  v699.toNat
def k0_off20 (v708 : BitVec 32) : Fin 2 → Nat :=
  let c256_i32_842 : BitVec 32 := 256#32
  let v714 : BitVec 32 := Scalar.muli v708 c256_i32_842
  let v715 : Index := Scalar.indexCast v714
  let c0_843 : Index := 0#32
  ![v715.toNat, 0]

def k0_chk21 (v708 : BitVec 32) : Prop :=
  (∀ a, (k0_off20 v708) a + S256x128.size a ≤ S8192x128.size a)
theorem k0_off20_inb : ∀ (v708 : BitVec 32) (k0_hw21 : k0_chk21 v708), ∀ a, (k0_off20 v708) a + S256x128.size a ≤ S8192x128.size a := fun v708 k0_hw21 => k0_hw21

def k0_off21 (v717 : BitVec 32) : Fin 2 → Nat :=
  let c256_i32_850 : BitVec 32 := 256#32
  let v723 : BitVec 32 := Scalar.muli v717 c256_i32_850
  let v724 : Index := Scalar.indexCast v723
  let c0_851 : Index := 0#32
  ![v724.toNat, 0]

def k0_chk22 (v717 : BitVec 32) : Prop :=
  (∀ a, (k0_off21 v717) a + S256x128.size a ≤ S8192x128.size a)
theorem k0_off21_inb : ∀ (v717 : BitVec 32) (k0_hw22 : k0_chk22 v717), ∀ a, (k0_off21 v717) a + S256x128.size a ≤ S8192x128.size a := fun v717 k0_hw22 => k0_hw22

def k0_dev45 (v3 : BitVec 32) : Nat :=
  let c0_i32_892 : BitVec 32 := 0#32
  let c1_i32_891 : BitVec 32 := 1#32
  let v754 : BitVec 32 := Scalar.muli v3 c1_i32_891
  let v755 : BitVec 32 := Scalar.addi c0_i32_892 v754
  v755.toNat
def k0_dev46 (v4 : BitVec 32) : Nat :=
  let c0_i32_895 : BitVec 32 := 0#32
  let c1_i32_894 : BitVec 32 := 1#32
  let v756 : BitVec 32 := Scalar.muli v4 c1_i32_894
  let v757 : BitVec 32 := Scalar.addi c0_i32_895 v756
  v757.toNat
def k0_dev47 (v4 : BitVec 32) : Nat :=
  let c0_i32_905 : BitVec 32 := 0#32
  let c1_i32_904 : BitVec 32 := 1#32
  let v758 : BitVec 32 := Scalar.muli v4 c1_i32_904
  let v759 : BitVec 32 := Scalar.addi c0_i32_905 v758
  v759.toNat
def k0_dev48 (v3 : BitVec 32) : Nat :=
  let c0_i32_915 : BitVec 32 := 0#32
  let c1_i32_914 : BitVec 32 := 1#32
  let v768 : BitVec 32 := Scalar.muli v3 c1_i32_914
  let v769 : BitVec 32 := Scalar.addi c0_i32_915 v768
  v769.toNat
def k0_off22 (v778 : BitVec 32) : Fin 2 → Nat :=
  let c256_i32_926 : BitVec 32 := 256#32
  let v784 : BitVec 32 := Scalar.muli v778 c256_i32_926
  let v785 : Index := Scalar.indexCast v784
  let c0_927 : Index := 0#32
  ![v785.toNat, 0]

def k0_chk23 (v778 : BitVec 32) : Prop :=
  (∀ a, (k0_off22 v778) a + S256x128.size a ≤ S8192x128.size a)
theorem k0_off22_inb : ∀ (v778 : BitVec 32) (k0_hw23 : k0_chk23 v778), ∀ a, (k0_off22 v778) a + S256x128.size a ≤ S8192x128.size a := fun v778 k0_hw23 => k0_hw23

def k0_off23 (v787 : BitVec 32) : Fin 2 → Nat :=
  let c256_i32_934 : BitVec 32 := 256#32
  let v793 : BitVec 32 := Scalar.muli v787 c256_i32_934
  let v794 : Index := Scalar.indexCast v793
  let c0_935 : Index := 0#32
  ![v794.toNat, 0]

def k0_chk24 (v787 : BitVec 32) : Prop :=
  (∀ a, (k0_off23 v787) a + S256x128.size a ≤ S8192x128.size a)
theorem k0_off23_inb : ∀ (v787 : BitVec 32) (k0_hw24 : k0_chk24 v787), ∀ a, (k0_off23 v787) a + S256x128.size a ≤ S8192x128.size a := fun v787 k0_hw24 => k0_hw24

def k0_dev49 (v3 : BitVec 32) : Nat :=
  let c0_i32_976 : BitVec 32 := 0#32
  let c1_i32_975 : BitVec 32 := 1#32
  let v824 : BitVec 32 := Scalar.muli v3 c1_i32_975
  let v825 : BitVec 32 := Scalar.addi c0_i32_976 v824
  v825.toNat
def k0_dev50 (v4 : BitVec 32) : Nat :=
  let c0_i32_979 : BitVec 32 := 0#32
  let c1_i32_978 : BitVec 32 := 1#32
  let v826 : BitVec 32 := Scalar.muli v4 c1_i32_978
  let v827 : BitVec 32 := Scalar.addi c0_i32_979 v826
  v827.toNat
def k0_dev51 (v4 : BitVec 32) : Nat :=
  let c0_i32_989 : BitVec 32 := 0#32
  let c1_i32_988 : BitVec 32 := 1#32
  let v828 : BitVec 32 := Scalar.muli v4 c1_i32_988
  let v829 : BitVec 32 := Scalar.addi c0_i32_989 v828
  v829.toNat
def k0_dev52 (v3 : BitVec 32) : Nat :=
  let c0_i32_999 : BitVec 32 := 0#32
  let c1_i32_998 : BitVec 32 := 1#32
  let v838 : BitVec 32 := Scalar.muli v3 c1_i32_998
  let v839 : BitVec 32 := Scalar.addi c0_i32_999 v838
  v839.toNat
def k0_off24 (v848 : BitVec 32) : Fin 2 → Nat :=
  let c256_i32_1010 : BitVec 32 := 256#32
  let v854 : BitVec 32 := Scalar.muli v848 c256_i32_1010
  let v855 : Index := Scalar.indexCast v854
  let c0_1011 : Index := 0#32
  ![v855.toNat, 0]

def k0_chk25 (v848 : BitVec 32) : Prop :=
  (∀ a, (k0_off24 v848) a + S256x128.size a ≤ S8192x128.size a)
theorem k0_off24_inb : ∀ (v848 : BitVec 32) (k0_hw25 : k0_chk25 v848), ∀ a, (k0_off24 v848) a + S256x128.size a ≤ S8192x128.size a := fun v848 k0_hw25 => k0_hw25

def k0_off25 (v857 : BitVec 32) : Fin 2 → Nat :=
  let c256_i32_1018 : BitVec 32 := 256#32
  let v863 : BitVec 32 := Scalar.muli v857 c256_i32_1018
  let v864 : Index := Scalar.indexCast v863
  let c0_1019 : Index := 0#32
  ![v864.toNat, 0]

def k0_chk26 (v857 : BitVec 32) : Prop :=
  (∀ a, (k0_off25 v857) a + S256x128.size a ≤ S8192x128.size a)
theorem k0_off25_inb : ∀ (v857 : BitVec 32) (k0_hw26 : k0_chk26 v857), ∀ a, (k0_off25 v857) a + S256x128.size a ≤ S8192x128.size a := fun v857 k0_hw26 => k0_hw26

def k0_dev53 (v3 : BitVec 32) : Nat :=
  let c0_i32_1060 : BitVec 32 := 0#32
  let c1_i32_1059 : BitVec 32 := 1#32
  let v894 : BitVec 32 := Scalar.muli v3 c1_i32_1059
  let v895 : BitVec 32 := Scalar.addi c0_i32_1060 v894
  v895.toNat
def k0_dev54 (v4 : BitVec 32) : Nat :=
  let c0_i32_1063 : BitVec 32 := 0#32
  let c1_i32_1062 : BitVec 32 := 1#32
  let v896 : BitVec 32 := Scalar.muli v4 c1_i32_1062
  let v897 : BitVec 32 := Scalar.addi c0_i32_1063 v896
  v897.toNat
def k0_dev55 (v4 : BitVec 32) : Nat :=
  let c0_i32_1073 : BitVec 32 := 0#32
  let c1_i32_1072 : BitVec 32 := 1#32
  let v898 : BitVec 32 := Scalar.muli v4 c1_i32_1072
  let v899 : BitVec 32 := Scalar.addi c0_i32_1073 v898
  v899.toNat
def k0_dev56 (v3 : BitVec 32) : Nat :=
  let c0_i32_1083 : BitVec 32 := 0#32
  let c1_i32_1082 : BitVec 32 := 1#32
  let v908 : BitVec 32 := Scalar.muli v3 c1_i32_1082
  let v909 : BitVec 32 := Scalar.addi c0_i32_1083 v908
  v909.toNat
def k0_off26 (v918 : BitVec 32) : Fin 2 → Nat :=
  let c256_i32_1094 : BitVec 32 := 256#32
  let v924 : BitVec 32 := Scalar.muli v918 c256_i32_1094
  let v925 : Index := Scalar.indexCast v924
  let c0_1095 : Index := 0#32
  ![v925.toNat, 0]

def k0_chk27 (v918 : BitVec 32) : Prop :=
  (∀ a, (k0_off26 v918) a + S256x128.size a ≤ S8192x128.size a)
theorem k0_off26_inb : ∀ (v918 : BitVec 32) (k0_hw27 : k0_chk27 v918), ∀ a, (k0_off26 v918) a + S256x128.size a ≤ S8192x128.size a := fun v918 k0_hw27 => k0_hw27

def k0_off27 (v927 : BitVec 32) : Fin 2 → Nat :=
  let c256_i32_1102 : BitVec 32 := 256#32
  let v933 : BitVec 32 := Scalar.muli v927 c256_i32_1102
  let v934 : Index := Scalar.indexCast v933
  let c0_1103 : Index := 0#32
  ![v934.toNat, 0]

def k0_chk28 (v927 : BitVec 32) : Prop :=
  (∀ a, (k0_off27 v927) a + S256x128.size a ≤ S8192x128.size a)
theorem k0_off27_inb : ∀ (v927 : BitVec 32) (k0_hw28 : k0_chk28 v927), ∀ a, (k0_off27 v927) a + S256x128.size a ≤ S8192x128.size a := fun v927 k0_hw28 => k0_hw28

def k0_dev57 (v3 : BitVec 32) : Nat :=
  let c0_i32_1144 : BitVec 32 := 0#32
  let c1_i32_1143 : BitVec 32 := 1#32
  let v964 : BitVec 32 := Scalar.muli v3 c1_i32_1143
  let v965 : BitVec 32 := Scalar.addi c0_i32_1144 v964
  v965.toNat
def k0_dev58 (v4 : BitVec 32) : Nat :=
  let c0_i32_1147 : BitVec 32 := 0#32
  let c1_i32_1146 : BitVec 32 := 1#32
  let v966 : BitVec 32 := Scalar.muli v4 c1_i32_1146
  let v967 : BitVec 32 := Scalar.addi c0_i32_1147 v966
  v967.toNat
def k0_dev59 (v4 : BitVec 32) : Nat :=
  let c0_i32_1157 : BitVec 32 := 0#32
  let c1_i32_1156 : BitVec 32 := 1#32
  let v968 : BitVec 32 := Scalar.muli v4 c1_i32_1156
  let v969 : BitVec 32 := Scalar.addi c0_i32_1157 v968
  v969.toNat
def k0_dev60 (v3 : BitVec 32) : Nat :=
  let c0_i32_1167 : BitVec 32 := 0#32
  let c1_i32_1166 : BitVec 32 := 1#32
  let v978 : BitVec 32 := Scalar.muli v3 c1_i32_1166
  let v979 : BitVec 32 := Scalar.addi c0_i32_1167 v978
  v979.toNat
def k0_off28 (v988 : BitVec 32) : Fin 2 → Nat :=
  let c256_i32_1178 : BitVec 32 := 256#32
  let v994 : BitVec 32 := Scalar.muli v988 c256_i32_1178
  let v995 : Index := Scalar.indexCast v994
  let c0_1179 : Index := 0#32
  ![v995.toNat, 0]

def k0_chk29 (v988 : BitVec 32) : Prop :=
  (∀ a, (k0_off28 v988) a + S256x128.size a ≤ S8192x128.size a)
theorem k0_off28_inb : ∀ (v988 : BitVec 32) (k0_hw29 : k0_chk29 v988), ∀ a, (k0_off28 v988) a + S256x128.size a ≤ S8192x128.size a := fun v988 k0_hw29 => k0_hw29

def k0_off29 (v997 : BitVec 32) : Fin 2 → Nat :=
  let c256_i32_1186 : BitVec 32 := 256#32
  let v1003 : BitVec 32 := Scalar.muli v997 c256_i32_1186
  let v1004 : Index := Scalar.indexCast v1003
  let c0_1187 : Index := 0#32
  ![v1004.toNat, 0]

def k0_chk30 (v997 : BitVec 32) : Prop :=
  (∀ a, (k0_off29 v997) a + S256x128.size a ≤ S8192x128.size a)
theorem k0_off29_inb : ∀ (v997 : BitVec 32) (k0_hw30 : k0_chk30 v997), ∀ a, (k0_off29 v997) a + S256x128.size a ≤ S8192x128.size a := fun v997 k0_hw30 => k0_hw30

def k0_dev61 (v3 : BitVec 32) : Nat :=
  let c0_i32_1228 : BitVec 32 := 0#32
  let c1_i32_1227 : BitVec 32 := 1#32
  let v1034 : BitVec 32 := Scalar.muli v3 c1_i32_1227
  let v1035 : BitVec 32 := Scalar.addi c0_i32_1228 v1034
  v1035.toNat

def k0_chk1 (v3 : BitVec 32) : Prop :=
  ((k0_dev1 v3) < nD) ∧
  ((k0_dev4 v3) < nD) ∧
  ((k0_dev5 v3) < nD) ∧
  ((k0_dev8 v3) < nD) ∧
  ((k0_dev9 v3) < nD) ∧
  ((k0_dev12 v3) < nD) ∧
  ((k0_dev13 v3) < nD) ∧
  ((k0_dev16 v3) < nD) ∧
  ((k0_dev17 v3) < nD) ∧
  ((k0_dev20 v3) < nD) ∧
  ((k0_dev21 v3) < nD) ∧
  ((k0_dev24 v3) < nD) ∧
  ((k0_dev25 v3) < nD) ∧
  ((k0_dev28 v3) < nD) ∧
  ((k0_dev29 v3) < nD) ∧
  ((k0_dev32 v3) < nD) ∧
  ((k0_dev33 v3) < nD) ∧
  ((k0_dev36 v3) < nD) ∧
  ((k0_dev37 v3) < nD) ∧
  ((k0_dev40 v3) < nD) ∧
  ((k0_dev41 v3) < nD) ∧
  ((k0_dev44 v3) < nD) ∧
  ((k0_dev45 v3) < nD) ∧
  ((k0_dev48 v3) < nD) ∧
  ((k0_dev49 v3) < nD) ∧
  ((k0_dev52 v3) < nD) ∧
  ((k0_dev53 v3) < nD) ∧
  ((k0_dev56 v3) < nD) ∧
  ((k0_dev57 v3) < nD) ∧
  ((k0_dev60 v3) < nD) ∧
  ((k0_dev61 v3) < nD)
theorem k0_dev1_lt : ∀ (v3 : BitVec 32) (k0_hw1 : k0_chk1 v3), (k0_dev1 v3) < nD := fun v3 k0_hw1 => k0_hw1.1
theorem k0_dev4_lt : ∀ (v3 : BitVec 32) (k0_hw1 : k0_chk1 v3), (k0_dev4 v3) < nD := fun v3 k0_hw1 => k0_hw1.2.1
theorem k0_dev5_lt : ∀ (v3 : BitVec 32) (k0_hw1 : k0_chk1 v3), (k0_dev5 v3) < nD := fun v3 k0_hw1 => k0_hw1.2.2.1
theorem k0_dev8_lt : ∀ (v3 : BitVec 32) (k0_hw1 : k0_chk1 v3), (k0_dev8 v3) < nD := fun v3 k0_hw1 => k0_hw1.2.2.2.1
theorem k0_dev9_lt : ∀ (v3 : BitVec 32) (k0_hw1 : k0_chk1 v3), (k0_dev9 v3) < nD := fun v3 k0_hw1 => k0_hw1.2.2.2.2.1
theorem k0_dev12_lt : ∀ (v3 : BitVec 32) (k0_hw1 : k0_chk1 v3), (k0_dev12 v3) < nD := fun v3 k0_hw1 => k0_hw1.2.2.2.2.2.1
theorem k0_dev13_lt : ∀ (v3 : BitVec 32) (k0_hw1 : k0_chk1 v3), (k0_dev13 v3) < nD := fun v3 k0_hw1 => k0_hw1.2.2.2.2.2.2.1
theorem k0_dev16_lt : ∀ (v3 : BitVec 32) (k0_hw1 : k0_chk1 v3), (k0_dev16 v3) < nD := fun v3 k0_hw1 => k0_hw1.2.2.2.2.2.2.2.1
theorem k0_dev17_lt : ∀ (v3 : BitVec 32) (k0_hw1 : k0_chk1 v3), (k0_dev17 v3) < nD := fun v3 k0_hw1 => k0_hw1.2.2.2.2.2.2.2.2.1
theorem k0_dev20_lt : ∀ (v3 : BitVec 32) (k0_hw1 : k0_chk1 v3), (k0_dev20 v3) < nD := fun v3 k0_hw1 => k0_hw1.2.2.2.2.2.2.2.2.2.1
theorem k0_dev21_lt : ∀ (v3 : BitVec 32) (k0_hw1 : k0_chk1 v3), (k0_dev21 v3) < nD := fun v3 k0_hw1 => k0_hw1.2.2.2.2.2.2.2.2.2.2.1
theorem k0_dev24_lt : ∀ (v3 : BitVec 32) (k0_hw1 : k0_chk1 v3), (k0_dev24 v3) < nD := fun v3 k0_hw1 => k0_hw1.2.2.2.2.2.2.2.2.2.2.2.1
theorem k0_dev25_lt : ∀ (v3 : BitVec 32) (k0_hw1 : k0_chk1 v3), (k0_dev25 v3) < nD := fun v3 k0_hw1 => k0_hw1.2.2.2.2.2.2.2.2.2.2.2.2.1
theorem k0_dev28_lt : ∀ (v3 : BitVec 32) (k0_hw1 : k0_chk1 v3), (k0_dev28 v3) < nD := fun v3 k0_hw1 => k0_hw1.2.2.2.2.2.2.2.2.2.2.2.2.2.1
theorem k0_dev29_lt : ∀ (v3 : BitVec 32) (k0_hw1 : k0_chk1 v3), (k0_dev29 v3) < nD := fun v3 k0_hw1 => k0_hw1.2.2.2.2.2.2.2.2.2.2.2.2.2.2.1
theorem k0_dev32_lt : ∀ (v3 : BitVec 32) (k0_hw1 : k0_chk1 v3), (k0_dev32 v3) < nD := fun v3 k0_hw1 => k0_hw1.2.2.2.2.2.2.2.2.2.2.2.2.2.2.2.1
theorem k0_dev33_lt : ∀ (v3 : BitVec 32) (k0_hw1 : k0_chk1 v3), (k0_dev33 v3) < nD := fun v3 k0_hw1 => k0_hw1.2.2.2.2.2.2.2.2.2.2.2.2.2.2.2.2.1
theorem k0_dev36_lt : ∀ (v3 : BitVec 32) (k0_hw1 : k0_chk1 v3), (k0_dev36 v3) < nD := fun v3 k0_hw1 => k0_hw1.2.2.2.2.2.2.2.2.2.2.2.2.2.2.2.2.2.1
theorem k0_dev37_lt : ∀ (v3 : BitVec 32) (k0_hw1 : k0_chk1 v3), (k0_dev37 v3) < nD := fun v3 k0_hw1 => k0_hw1.2.2.2.2.2.2.2.2.2.2.2.2.2.2.2.2.2.2.1
theorem k0_dev40_lt : ∀ (v3 : BitVec 32) (k0_hw1 : k0_chk1 v3), (k0_dev40 v3) < nD := fun v3 k0_hw1 => k0_hw1.2.2.2.2.2.2.2.2.2.2.2.2.2.2.2.2.2.2.2.1
theorem k0_dev41_lt : ∀ (v3 : BitVec 32) (k0_hw1 : k0_chk1 v3), (k0_dev41 v3) < nD := fun v3 k0_hw1 => k0_hw1.2.2.2.2.2.2.2.2.2.2.2.2.2.2.2.2.2.2.2.2.1
theorem k0_dev44_lt : ∀ (v3 : BitVec 32) (k0_hw1 : k0_chk1 v3), (k0_dev44 v3) < nD := fun v3 k0_hw1 => k0_hw1.2.2.2.2.2.2.2.2.2.2.2.2.2.2.2.2.2.2.2.2.2.1
theorem k0_dev45_lt : ∀ (v3 : BitVec 32) (k0_hw1 : k0_chk1 v3), (k0_dev45 v3) < nD := fun v3 k0_hw1 => k0_hw1.2.2.2.2.2.2.2.2.2.2.2.2.2.2.2.2.2.2.2.2.2.2.1
theorem k0_dev48_lt : ∀ (v3 : BitVec 32) (k0_hw1 : k0_chk1 v3), (k0_dev48 v3) < nD := fun v3 k0_hw1 => k0_hw1.2.2.2.2.2.2.2.2.2.2.2.2.2.2.2.2.2.2.2.2.2.2.2.1
theorem k0_dev49_lt : ∀ (v3 : BitVec 32) (k0_hw1 : k0_chk1 v3), (k0_dev49 v3) < nD := fun v3 k0_hw1 => k0_hw1.2.2.2.2.2.2.2.2.2.2.2.2.2.2.2.2.2.2.2.2.2.2.2.2.1
theorem k0_dev52_lt : ∀ (v3 : BitVec 32) (k0_hw1 : k0_chk1 v3), (k0_dev52 v3) < nD := fun v3 k0_hw1 => k0_hw1.2.2.2.2.2.2.2.2.2.2.2.2.2.2.2.2.2.2.2.2.2.2.2.2.2.1
theorem k0_dev53_lt : ∀ (v3 : BitVec 32) (k0_hw1 : k0_chk1 v3), (k0_dev53 v3) < nD := fun v3 k0_hw1 => k0_hw1.2.2.2.2.2.2.2.2.2.2.2.2.2.2.2.2.2.2.2.2.2.2.2.2.2.2.1
theorem k0_dev56_lt : ∀ (v3 : BitVec 32) (k0_hw1 : k0_chk1 v3), (k0_dev56 v3) < nD := fun v3 k0_hw1 => k0_hw1.2.2.2.2.2.2.2.2.2.2.2.2.2.2.2.2.2.2.2.2.2.2.2.2.2.2.2.1
theorem k0_dev57_lt : ∀ (v3 : BitVec 32) (k0_hw1 : k0_chk1 v3), (k0_dev57 v3) < nD := fun v3 k0_hw1 => k0_hw1.2.2.2.2.2.2.2.2.2.2.2.2.2.2.2.2.2.2.2.2.2.2.2.2.2.2.2.2.1
theorem k0_dev60_lt : ∀ (v3 : BitVec 32) (k0_hw1 : k0_chk1 v3), (k0_dev60 v3) < nD := fun v3 k0_hw1 => k0_hw1.2.2.2.2.2.2.2.2.2.2.2.2.2.2.2.2.2.2.2.2.2.2.2.2.2.2.2.2.2.1
theorem k0_dev61_lt : ∀ (v3 : BitVec 32) (k0_hw1 : k0_chk1 v3), (k0_dev61 v3) < nD := fun v3 k0_hw1 => k0_hw1.2.2.2.2.2.2.2.2.2.2.2.2.2.2.2.2.2.2.2.2.2.2.2.2.2.2.2.2.2.2

def k0_dev62 (v4 : BitVec 32) : Nat :=
  let c0_i32_1236 : BitVec 32 := 0#32
  let c1_i32_1235 : BitVec 32 := 1#32
  let v1036 : BitVec 32 := Scalar.muli v4 c1_i32_1235
  let v1037 : BitVec 32 := Scalar.addi c0_i32_1236 v1036
  v1037.toNat

def k0_chk2 (v4 : BitVec 32) : Prop :=
  ((k0_dev2 v4) < nD) ∧
  ((k0_dev3 v4) < nD) ∧
  ((k0_dev6 v4) < nD) ∧
  ((k0_dev7 v4) < nD) ∧
  ((k0_dev10 v4) < nD) ∧
  ((k0_dev11 v4) < nD) ∧
  ((k0_dev14 v4) < nD) ∧
  ((k0_dev15 v4) < nD) ∧
  ((k0_dev18 v4) < nD) ∧
  ((k0_dev19 v4) < nD) ∧
  ((k0_dev22 v4) < nD) ∧
  ((k0_dev23 v4) < nD) ∧
  ((k0_dev26 v4) < nD) ∧
  ((k0_dev27 v4) < nD) ∧
  ((k0_dev30 v4) < nD) ∧
  ((k0_dev31 v4) < nD) ∧
  ((k0_dev34 v4) < nD) ∧
  ((k0_dev35 v4) < nD) ∧
  ((k0_dev38 v4) < nD) ∧
  ((k0_dev39 v4) < nD) ∧
  ((k0_dev42 v4) < nD) ∧
  ((k0_dev43 v4) < nD) ∧
  ((k0_dev46 v4) < nD) ∧
  ((k0_dev47 v4) < nD) ∧
  ((k0_dev50 v4) < nD) ∧
  ((k0_dev51 v4) < nD) ∧
  ((k0_dev54 v4) < nD) ∧
  ((k0_dev55 v4) < nD) ∧
  ((k0_dev58 v4) < nD) ∧
  ((k0_dev59 v4) < nD) ∧
  ((k0_dev62 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev6_lt : ∀ (v4 : BitVec 32) (k0_hw2 : k0_chk2 v4), (k0_dev6 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev10_lt : ∀ (v4 : BitVec 32) (k0_hw2 : k0_chk2 v4), (k0_dev10 v4) < nD := fun v4 k0_hw2 => k0_hw2.2.2.2.2.1
theorem k0_dev11_lt : ∀ (v4 : BitVec 32) (k0_hw2 : k0_chk2 v4), (k0_dev11 v4) < nD := fun v4 k0_hw2 => k0_hw2.2.2.2.2.2.1
theorem k0_dev14_lt : ∀ (v4 : BitVec 32) (k0_hw2 : k0_chk2 v4), (k0_dev14 v4) < nD := fun v4 k0_hw2 => k0_hw2.2.2.2.2.2.2.1
theorem k0_dev15_lt : ∀ (v4 : BitVec 32) (k0_hw2 : k0_chk2 v4), (k0_dev15 v4) < nD := fun v4 k0_hw2 => k0_hw2.2.2.2.2.2.2.2.1
theorem k0_dev18_lt : ∀ (v4 : BitVec 32) (k0_hw2 : k0_chk2 v4), (k0_dev18 v4) < nD := fun v4 k0_hw2 => k0_hw2.2.2.2.2.2.2.2.2.1
theorem k0_dev19_lt : ∀ (v4 : BitVec 32) (k0_hw2 : k0_chk2 v4), (k0_dev19 v4) < nD := fun v4 k0_hw2 => k0_hw2.2.2.2.2.2.2.2.2.2.1
theorem k0_dev22_lt : ∀ (v4 : BitVec 32) (k0_hw2 : k0_chk2 v4), (k0_dev22 v4) < nD := fun v4 k0_hw2 => k0_hw2.2.2.2.2.2.2.2.2.2.2.1
theorem k0_dev23_lt : ∀ (v4 : BitVec 32) (k0_hw2 : k0_chk2 v4), (k0_dev23 v4) < nD := fun v4 k0_hw2 => k0_hw2.2.2.2.2.2.2.2.2.2.2.2.1
theorem k0_dev26_lt : ∀ (v4 : BitVec 32) (k0_hw2 : k0_chk2 v4), (k0_dev26 v4) < nD := fun v4 k0_hw2 => k0_hw2.2.2.2.2.2.2.2.2.2.2.2.2.1
theorem k0_dev27_lt : ∀ (v4 : BitVec 32) (k0_hw2 : k0_chk2 v4), (k0_dev27 v4) < nD := fun v4 k0_hw2 => k0_hw2.2.2.2.2.2.2.2.2.2.2.2.2.2.1
theorem k0_dev30_lt : ∀ (v4 : BitVec 32) (k0_hw2 : k0_chk2 v4), (k0_dev30 v4) < nD := fun v4 k0_hw2 => k0_hw2.2.2.2.2.2.2.2.2.2.2.2.2.2.2.1
theorem k0_dev31_lt : ∀ (v4 : BitVec 32) (k0_hw2 : k0_chk2 v4), (k0_dev31 v4) < nD := fun v4 k0_hw2 => k0_hw2.2.2.2.2.2.2.2.2.2.2.2.2.2.2.2.1
theorem k0_dev34_lt : ∀ (v4 : BitVec 32) (k0_hw2 : k0_chk2 v4), (k0_dev34 v4) < nD := fun v4 k0_hw2 => k0_hw2.2.2.2.2.2.2.2.2.2.2.2.2.2.2.2.2.1
theorem k0_dev35_lt : ∀ (v4 : BitVec 32) (k0_hw2 : k0_chk2 v4), (k0_dev35 v4) < nD := fun v4 k0_hw2 => k0_hw2.2.2.2.2.2.2.2.2.2.2.2.2.2.2.2.2.2.1
theorem k0_dev38_lt : ∀ (v4 : BitVec 32) (k0_hw2 : k0_chk2 v4), (k0_dev38 v4) < nD := fun v4 k0_hw2 => k0_hw2.2.2.2.2.2.2.2.2.2.2.2.2.2.2.2.2.2.2.1
theorem k0_dev39_lt : ∀ (v4 : BitVec 32) (k0_hw2 : k0_chk2 v4), (k0_dev39 v4) < nD := fun v4 k0_hw2 => k0_hw2.2.2.2.2.2.2.2.2.2.2.2.2.2.2.2.2.2.2.2.1
theorem k0_dev42_lt : ∀ (v4 : BitVec 32) (k0_hw2 : k0_chk2 v4), (k0_dev42 v4) < nD := fun v4 k0_hw2 => k0_hw2.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.2.2.2.2.2.2.2.2.2.2.2.2.2.2.2.2.2.2.2.2.2.1
theorem k0_dev46_lt : ∀ (v4 : BitVec 32) (k0_hw2 : k0_chk2 v4), (k0_dev46 v4) < nD := fun v4 k0_hw2 => k0_hw2.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.2.2.2.2.2.2.2.2.2.2.2.2.2.2.2.2.2.2.2.2.2.2.2.1
theorem k0_dev50_lt : ∀ (v4 : BitVec 32) (k0_hw2 : k0_chk2 v4), (k0_dev50 v4) < nD := fun v4 k0_hw2 => k0_hw2.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.2.2.2.2.2.2.2.2.2.2.2.2.2.2.2.2.2.2.2.2.2.2.2.2.2.1
theorem k0_dev54_lt : ∀ (v4 : BitVec 32) (k0_hw2 : k0_chk2 v4), (k0_dev54 v4) < nD := fun v4 k0_hw2 => k0_hw2.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.2.2.2.2.2.2.2.2.2.2.2.2.2.2.2.2.2.2.2.2.2.2.2.2.2.2.2.1
theorem k0_dev58_lt : ∀ (v4 : BitVec 32) (k0_hw2 : k0_chk2 v4), (k0_dev58 v4) < nD := fun v4 k0_hw2 => k0_hw2.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.2.2.2.2.2.2.2.2.2.2.2.2.2.2.2.2.2.2.2.2.2.2.2.2.2.2.2.2.2.1
theorem k0_dev62_lt : ∀ (v4 : BitVec 32) (k0_hw2 : k0_chk2 v4), (k0_dev62 v4) < nD := fun v4 k0_hw2 => k0_hw2.2.2.2.2.2.2.2.2.2.2.2.2.2.2.2.2.2.2.2.2.2.2.2.2.2.2.2.2.2.2

def k0_off30 (v1046 : BitVec 32) : Fin 2 → Nat :=
  let c256_i32_1247 : BitVec 32 := 256#32
  let v1052 : BitVec 32 := Scalar.muli v1046 c256_i32_1247
  let v1053 : Index := Scalar.indexCast v1052
  let c0_1248 : Index := 0#32
  ![v1053.toNat, 0]

def k0_chk31 (v1046 : BitVec 32) : Prop :=
  (∀ a, (k0_off30 v1046) a + S256x128.size a ≤ S8192x128.size a)
theorem k0_off30_inb : ∀ (v1046 : BitVec 32) (k0_hw31 : k0_chk31 v1046), ∀ a, (k0_off30 v1046) a + S256x128.size a ≤ S8192x128.size a := fun v1046 k0_hw31 => k0_hw31

def k0_off31 (v1055 : BitVec 32) : Fin 2 → Nat :=
  let c256_i32_1255 : BitVec 32 := 256#32
  let v1061 : BitVec 32 := Scalar.muli v1055 c256_i32_1255
  let v1062 : Index := Scalar.indexCast v1061
  let c0_1256 : Index := 0#32
  ![v1062.toNat, 0]

def k0_chk32 (v1055 : BitVec 32) : Prop :=
  (∀ a, (k0_off31 v1055) a + S256x128.size a ≤ S8192x128.size a)
theorem k0_off31_inb : ∀ (v1055 : BitVec 32) (k0_hw32 : k0_chk32 v1055), ∀ a, (k0_off31 v1055) a + S256x128.size a ≤ S8192x128.size a := fun v1055 k0_hw32 => k0_hw32

def k0_off32 (v1078 : BitVec 32) : Fin 2 → Nat :=
  let c256_i32_1282 : BitVec 32 := 256#32
  let v1084 : BitVec 32 := Scalar.muli v1078 c256_i32_1282
  let v1085 : Index := Scalar.indexCast v1084
  let c0_1283 : Index := 0#32
  ![v1085.toNat, 0]

def k0_chk33 (v1078 : BitVec 32) : Prop :=
  (∀ a, (k0_off32 v1078) a + S256x128.size a ≤ S8192x128.size a)
theorem k0_off32_inb : ∀ (v1078 : BitVec 32) (k0_hw33 : k0_chk33 v1078), ∀ a, (k0_off32 v1078) a + S256x128.size a ≤ S8192x128.size a := fun v1078 k0_hw33 => k0_hw33

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S33 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Params.lean ====
/-
  What the host code leaves in the kernel's parameter array: for every device the two neighbours on the ring and the
  devices whose rows arrive, in order, from either side. The operations are read once over any buffers (`rem_…`,
  `look_…`), then evaluated over the thirty-two devices.
-/
module

public import proofs.«01_k».proof.Proof.Gen.KernelIdeal.Regions
public import Idealize.ShloMosaic.Lib.StableHlo.RunClose

@[expose] public section

noncomputable section

namespace Cert.KernelIdeal

open Idealize.ShloMosaic Idealize.ShloMosaic.TcCoe
open Idealize.SL Idealize.SL.Sem
open Gen

/-! ## The ring -/

/-- The device at position `p` of the ring, as a word. -/
def ringW (p : ℕ) : BitVec 32 := lit0 ⟨p % 32, Nat.mod_lt _ (by decide)⟩
/-- Device `c`'s position on the ring. -/
def pos (c : Dev nD) : ℕ := (lit1 c).toNat
/-- The device at position `p` of the ring. -/
def ring (p : ℕ) : Dev nD := ⟨(ringW p).toNat % 32, Nat.mod_lt _ (by decide)⟩
/-- `c`'s right neighbour. -/
def nxt (c : Dev nD) : Dev nD := ring (pos c + 1)
/-- `c`'s left neighbour. -/
def prv (c : Dev nD) : Dev nD := ring (pos c + 31)

theorem ring_eq : ∀ p : Fin 32, ringW p = BitVec.ofNat 32 (ring p).val := by decide +kernel
theorem pos_lt : ∀ c : Dev nD, pos c < 32 := by decide +kernel
theorem ring_pos : ∀ c : Dev nD, ring (pos c) = c := by decide +kernel
theorem pos_ring : ∀ p : Fin 32, pos (ring p) = p := by decide +kernel
theorem nxt_prv : ∀ c : Dev nD, nxt (prv c) = c := by decide +kernel
theorem prv_nxt : ∀ c : Dev nD, prv (nxt c) = c := by decide +kernel
theorem nxt_ne : ∀ c : Dev nD, nxt c ≠ c := by decide +kernel
theorem nxt_ne_prv : ∀ c : Dev nD, nxt c ≠ prv c := by decide +kernel

/-- The parameter array's entry `i` on device `c`: left, right, then the origins of what comes from the left (the chunk of
    step `k` started `k + 1` positions to the left) and of what comes from the right. -/
def param (c : Dev nD) (i : ℕ) : BitVec 32 :=
  if i = 0 then ringW (pos c + 31) else if i = 1 then ringW (pos c + 1)
  else if i < 18 then ringW (pos c + 31 - (i - 2)) else ringW (pos c + 1 + (i - 18))

/-! ## The host operations, each over any contents -/

/-- A word wrapped as an index of a table: thirty-two is added below zero. -/
def wrap (v : S_.Idx → BitVec 32) : S_.Idx → BitVec 32 :=
  select (cmpi .slt v (constantI S_ 32 0#32)) (addi v (constantI S_ 32 32#32)) v
/-- A table's entry at a word. -/
def look (t : Fin 32 → BitVec 32) (v : S_.Idx → BitVec 32) : S_.Idx → BitVec 32 := fun i =>
  shapeCast S_ (Host.dynamicSlice S1 (fun i => t (S32.rowMajor i))
    (fun k : Fin 1 => ((![wrap v] : Fin 1 → S_.Idx → BitVec 32) k (Shape.Idx.first h_S_)).toInt) sliceFits_S32_S1) shapeCasts_S1_S_ i
/-- The device's own word, as the host code computes it. -/
def own (c : Dev nD) : S_.Idx → BitVec 32 :=
  id (Host.remui (Host.divui (constantI S_ 32 (Dev.word c)) (constantI S_ 32 1#32)) (constantI S_ 32 32#32))
/-- The remainder by thirty-two with the divisor's sign. -/
def remW (w : BitVec 32) : BitVec 32 :=
  let d : S_.Idx → BitVec 32 := select (cmpi .eq (fun _ => 32#32) fun _ => 0#32) (fun _ => 1#32) fun _ => 32#32
  let a : S_.Idx → BitVec 32 := Host.remsi (fun _ => w) d
  select (andi (cmpi .ne (cmpi .slt a fun _ => 0#32) (cmpi .slt d fun _ => 0#32)) (cmpi .ne a fun _ => 0#32)) (addi a d) a
    (Shape.Idx.first h_S_)

section
variable {F : FTy → Type} [FloatOps F]

theorem rem_v11 (W : Valuation τ sig (Elt F)) (p : S_.Idx → BitVec 32) (hp : W main_v10 = p) (hc : W main_c_6 = fun _ => 32#32) :
    StableHlo.after hostOps0_1 W main_v11 = fun i => remW (p i) := by
  unfold hostOps0_1
  after_results_simp_entrywise
  simp only [StableHlo.TRef.ofBuf, StableHlo.TRef.toBuf, cast_cast, cast_eq]
  rw [hp, hc]
  rfl
theorem rem_v18 (W : Valuation τ sig (Elt F)) (p : S_.Idx → BitVec 32) (hp : W main_v17 = p) (hc : W main_c_10 = fun _ => 32#32) :
    StableHlo.after hostOps0_3 W main_v18 = fun i => remW (p i) := by
  unfold hostOps0_3
  after_results_simp_entrywise
  simp only [StableHlo.TRef.ofBuf, StableHlo.TRef.toBuf, cast_cast, cast_eq]
  rw [hp, hc]
  rfl
theorem rem_v28 (W : Valuation τ sig (Elt F)) (p : S16.Idx → BitVec 32) (hp : W main_v27 = p) (hc : W main_c_14 = fun _ => 32#32) :
    StableHlo.after hostOps0_5 W main_v28 = fun i => remW (p i) := by
  unfold hostOps0_5
  after_results_simp_entrywise
  simp only [StableHlo.TRef.ofBuf, StableHlo.TRef.toBuf, cast_cast, cast_eq]
  rw [hp, hc]
  rfl
theorem rem_v40 (W : Valuation τ sig (Elt F)) (p : S15.Idx → BitVec 32) (hp : W main_v39 = p) (hc : W main_c_18 = fun _ => 32#32) :
    StableHlo.after hostOps0_7 W main_v40 = fun i => remW (p i) := by
  unfold hostOps0_7
  after_results_simp_entrywise
  simp only [StableHlo.TRef.ofBuf, StableHlo.TRef.toBuf, cast_cast, cast_eq]
  rw [hp, hc]
  rfl
theorem look_v9 (c : Dev nD) (W : Valuation τ sig (Elt F)) :
    StableHlo.after (hostOps0 c) W main_v9 = look lit1 (own c) := by
  unfold hostOps0
  after_results_simp_entrywise
  rfl
theorem table_c (c : Dev nD) (W : Valuation τ sig (Elt F)) :
    StableHlo.after (hostOps0 c) W main_c = fun i => lit0 (S32.rowMajor i) := by
  unfold hostOps0
  after_results_simp_entrywise
  rfl
theorem c6 (c : Dev nD) (W : Valuation τ sig (Elt F)) : StableHlo.after (hostOps0 c) W main_c_6 = fun _ => 32#32 := by
  unfold hostOps0
  after_results_simp_entrywise
  rfl
theorem look_v16 (W : Valuation τ sig (Elt F)) (p : S_.Idx → BitVec 32) (hp : W main_v11 = p)
    (hc : W main_c = fun i => lit0 (S32.rowMajor i)) :
    StableHlo.after hostOps0_2 W main_v16 = look lit0 p := by
  unfold hostOps0_2
  after_results_simp_entrywise
  rw [hp, hc]
  rfl
theorem look_v23 (W : Valuation τ sig (Elt F)) (p : S_.Idx → BitVec 32) (hp : W main_v18 = p)
    (hc : W main_c = fun i => lit0 (S32.rowMajor i)) :
    StableHlo.after hostOps0_4 W main_v23 = look lit0 p := by
  unfold hostOps0_4
  after_results_simp_entrywise
  rw [hp, hc]
  rfl
theorem v10 (c : Dev nD) (W : Valuation τ sig (Elt F)) :
    StableHlo.after (hostOps0 c) W main_v10 = subi (look lit1 (own c)) (constantI S_ 32 1#32) := by
  unfold hostOps0
  after_results_simp_entrywise
  rfl
theorem v17 (W : Valuation τ sig (Elt F)) (p : S_.Idx → BitVec 32) (hp : W main_v9 = p) :
    StableHlo.after hostOps0_2 W main_v17 = addi p (constantI S_ 32 1#32) := by
  unfold hostOps0_2
  after_results_simp_entrywise
  rw [hp]
theorem c10 (W : Valuation τ sig (Elt F)) : StableHlo.after hostOps0_2 W main_c_10 = fun _ => 32#32 := by
  unfold hostOps0_2
  after_results_simp_entrywise
  rfl
theorem v27 (W : Valuation τ sig (Elt F)) (p : S_.Idx → BitVec 32) (hp : W main_v9 = p) :
    StableHlo.after hostOps0_4 W main_v27
      = subi (broadcastInDim S16 ![] bcast_S_S16 (subi p (constantI S_ 32 1#32))) (iotaInDim S16 32 0) := by
  unfold hostOps0_4
  after_results_simp_entrywise
  rw [hp]
theorem c14 (W : Valuation τ sig (Elt F)) : StableHlo.after hostOps0_4 W main_c_14 = fun _ => 32#32 := by
  unfold hostOps0_4
  after_results_simp_entrywise
  rfl
theorem v39 (W : Valuation τ sig (Elt F)) (p : S_.Idx → BitVec 32) (hp : W main_v9 = p) :
    StableHlo.after hostOps0_6 W main_v39
      = addi (broadcastInDim S15 ![] bcast_S_S15 (addi p (constantI S_ 32 1#32))) (iotaInDim S15 32 0) := by
  unfold hostOps0_6
  after_results_simp_entrywise
  rw [hp]
theorem c18 (W : Valuation τ sig (Elt F)) : StableHlo.after hostOps0_6 W main_c_18 = fun _ => 32#32 := by
  unfold hostOps0_6
  after_results_simp_entrywise
  rfl
/-- The ring table gathered at sixteen words. -/
def gath16 (v : S16.Idx → BitVec 32) : S16.Idx → BitVec 32 :=
  Host.gather gather_S32_S16x1_S16_n_0_n_n_0_1_1 (fun i => lit0 (S32.rowMajor i))
      (broadcastInDim S16x1 ![0] bcast_S16_S16x1_0
        (select (cmpi .slt v (broadcastInDim S16 ![] bcast_S_S16 (constantI S_ 32 0#32)))
          (addi v (broadcastInDim S16 ![] bcast_S_S16 (constantI S_ 32 32#32))) v))
/-- The ring table gathered at fifteen words. -/
def gath15 (v : S15.Idx → BitVec 32) : S15.Idx → BitVec 32 :=
  Host.gather gather_S32_S15x1_S15_n_0_n_n_0_1_1 (fun i => lit0 (S32.rowMajor i))
      (broadcastInDim S15x1 ![0] bcast_S15_S15x1_0
        (select (cmpi .slt v (broadcastInDim S15 ![] bcast_S_S15 (constantI S_ 32 0#32)))
          (addi v (broadcastInDim S15 ![] bcast_S_S15 (constantI S_ 32 32#32))) v))
theorem v35 (W : Valuation τ sig (Elt F)) (p : S16.Idx → BitVec 32) (hp : W main_v28 = p)
    (hc : W main_c = fun i => lit0 (S32.rowMajor i)) : StableHlo.after hostOps0_6 W main_v35 = gath16 p := by
  unfold hostOps0_6
  after_results_simp_entrywise
  rw [hp, hc]
  rfl
/-- The parameter array of its four parts. -/
def cat (l r : S_.Idx → BitVec 32) (u : S16.Idx → BitVec 32) (v : S15.Idx → BitVec 32) : S33.Idx → BitVec 32 :=
  concatenate S33 0 [⟨S2, concatenate S2 0 [⟨S1, broadcastInDim S1 ![] bcast_S_S1 l⟩, ⟨S1, broadcastInDim S1 ![] bcast_S_S1 r⟩]
    concatenates_S1_S1_S2_d0⟩, ⟨S16, u⟩, ⟨S15, v⟩] concatenates_S2_S16_S15_S33_d0
theorem cat2_congr {a a' b b' : S1.Idx → BitVec 32} (h : a = a') (h' : b = b') :
    concatenate S2 0 [⟨S1, a⟩, ⟨S1, b⟩] concatenates_S1_S1_S2_d0 = concatenate S2 0 [⟨S1, a'⟩, ⟨S1, b'⟩] concatenates_S1_S1_S2_d0 := by
  rw [h, h']
theorem cat3_congr {a a' : S2.Idx → BitVec 32} {b b' : S16.Idx → BitVec 32} {c c' : S15.Idx → BitVec 32} (h : a = a') (h' : b = b') (h'' : c = c') :
    concatenate S33 0 [⟨S2, a⟩, ⟨S16, b⟩, ⟨S15, c⟩] concatenates_S2_S16_S15_S33_d0
      = concatenate S33 0 [⟨S2, a'⟩, ⟨S16, b'⟩, ⟨S15, c'⟩] concatenates_S2_S16_S15_S33_d0 := by
  rw [h, h', h'']
theorem v51 (W : Valuation τ sig (Elt F)) (l r : S_.Idx → BitVec 32) (u : S16.Idx → BitVec 32) (v : S15.Idx → BitVec 32)
    (hl : W main_v16 = l) (hr : W main_v23 = r) (hu : W main_v35 = u) (hv : W main_v40 = v)
    (hc : W main_c = fun i => lit0 (S32.rowMajor i)) :
    StableHlo.after hostOps0_8 W main_v51 = cat l r u (gath15 v) := by
  unfold hostOps0_8
  after_results_simp_entrywise
  refine cat3_congr ?_ ?_ ?_
  · change (_ : Valuation τ sig (Elt F)) (Proc.devRef .tc main_v50) = _
    after_results_simp_entrywise
    refine cat2_congr ?_ ?_
    · after_results_simp_entrywise
      rw [hl]
    · after_results_simp_entrywise
      rw [hr]
  · change (_ : Valuation τ sig (Elt F)) (Proc.devRef .tc main_v35) = _
    after_results_simp_entrywise
    exact hu
  · change (_ : Valuation τ sig (Elt F)) (Proc.devRef .tc main_v47) = _
    after_results_simp_entrywise
    rw [hv, hc]
    rfl

/-! ## The array, evaluated -/

/-- The words of the array, computed. -/
def words (c : Dev nD) : S33.Idx → BitVec 32 :=
  let p := look lit1 (own c)
  cat (look lit0 fun i => remW (subi p (constantI S_ 32 1#32) i)) (look lit0 fun i => remW (addi p (constantI S_ 32 1#32) i))
    (gath16 fun i => remW (subi (broadcastInDim S16 ![] bcast_S_S16 (subi p (constantI S_ 32 1#32))) (iotaInDim S16 32 0) i))
    (gath15 fun i => remW (addi (broadcastInDim S15 ![] bcast_S_S15 (addi p (constantI S_ 32 1#32))) (iotaInDim S15 32 0) i))

variable (m : (ℓ : Loc nD τ sig) → Buf (Elt F) ℓ)

theorem V9_words (c : Dev nD) : V9 m c main_v51 = words c := by
  have h9 : V1 m c main_v9 = look lit1 (own c) := look_v9 c _
  have hc : V1 m c main_c = fun i => lit0 (S32.rowMajor i) := table_c c _
  have h11 := rem_v11 (V1 m c) _ (v10 c _) (c6 c _)
  have hc2 := (V2_of m c main_c (by decide)).trans hc
  have h9' := (V2_of m c main_v9 (by decide)).trans h9
  have h16 := look_v16 (V2 m c) _ h11 hc2
  have h17 := v17 (V2 m c) _ h9'
  have h18 := rem_v18 (V3 m c) _ h17 (c10 _)
  have hc4 := (V4_of m c main_c (by decide)).trans ((V3_of m c main_c (by decide)).trans hc2)
  have h94 := (V4_of m c main_v9 (by decide)).trans ((V3_of m c main_v9 (by decide)).trans h9')
  have h23 := look_v23 (V4 m c) _ h18 hc4
  have h27 := v27 (V4 m c) _ h94
  have h28 := rem_v28 (V5 m c) _ h27 (c14 _)
  have hc6 := (V6_of m c main_c (by decide)).trans ((V5_of m c main_c (by decide)).trans hc4)
  have h96 := (V6_of m c main_v9 (by decide)).trans ((V5_of m c main_v9 (by decide)).trans h94)
  have h35 := v35 (V6 m c) _ h28 hc6
  have h39 := v39 (V6 m c) _ h96
  have h40 := rem_v40 (V7 m c) _ h39 (c18 _)
  have hc8 := (V8_of m c main_c (by decide)).trans ((V7_of m c main_c (by decide)).trans hc6)
  refine (v51 (V8 m c) _ _ _ _ ?_ ?_ ((V8_of m c main_v35 (by decide)).trans h35) h40 hc8)
  · exact (V8_of m c main_v16 (by decide)).trans <| (V7_of m c main_v16 (by decide)).trans <| (V6_of m c main_v16 (by decide)).trans <|
      (V5_of m c main_v16 (by decide)).trans <| (V4_of m c main_v16 (by decide)).trans h16
  · exact (V8_of m c main_v23 (by decide)).trans <| (V7_of m c main_v23 (by decide)).trans <| (V6_of m c main_v23 (by decide)).trans h23
end

theorem words_eq : ∀ (c : Dev nD) (k : Fin 33), words c (fun | 0 => k) = param c k := by decide +kernel

end Cert.KernelIdeal
end
-- ==== Proof.Ring.lean ====
/-
  The ring in the two directions, whose rows travel where, and what the parameter words make the program compute: device
  ids, row offsets and the checks on them. Evaluated over the thirty-two devices.
-/
module

public import proofs.«01_k».proof.Proof.Params

@[expose] public section

noncomputable section

namespace Cert.KernelIdeal

open Idealize.ShloMosaic Idealize.ShloMosaic.TcCoe
open Idealize.SL Idealize.SL.Sem
open Gen

/-- The neighbour that direction `d` sends to: `false` travels to the right, `true` to the left. -/
def fw (d : Bool) (c : Dev nD) : Dev nD := match d with | false => nxt c | true => prv c
/-- The neighbour that direction `d` receives from. -/
def bw (d : Bool) (c : Dev nD) : Dev nD := match d with | false => prv c | true => nxt c
theorem bw_fw (d : Bool) (c : Dev nD) : bw d (fw d c) = c := by cases d; exacts [prv_nxt c, nxt_prv c]
theorem fw_bw (d : Bool) (c : Dev nD) : fw d (bw d c) = c := by cases d; exacts [nxt_prv c, prv_nxt c]

/-- How many hops direction `d` makes. -/
def hops (d : Bool) : ℕ := match d with | false => 16 | true => 15

/-- The device whose rows `c` sends on at hop `h` of direction `d`: `h` devices back. -/
def src (d : Bool) : Dev nD → ℕ → Dev nD
  | c, 0 => c
  | c, h + 1 => src d (bw d c) h
theorem src_fw (d : Bool) (c : Dev nD) (h : ℕ) : src d (fw d c) (h + 1) = src d c h := by
  show src d (bw d (fw d c)) h = _; rw [bw_fw]

/-- A device's id as a word. -/
def word (o : Dev nD) : BitVec 32 := BitVec.ofNat 32 o.val

theorem param_R : ∀ (c : Dev nD) (k : Fin 16), param c (2 + k) = word (src false c (k + 1)) := by decide +kernel
theorem param_L : ∀ (c : Dev nD) (k : Fin 15), param c (18 + k) = word (src true c (k + 1)) := by decide +kernel

/-- A device's own rows and the rows that arrive are every device's rows. -/
theorem src_covers : ∀ c o : Dev nD, o = c ∨ (∃ k : Fin 16, o = src false c (k + 1)) ∨ (∃ k : Fin 15, o = src true c (k + 1)) := by
  decide +kernel

theorem dev_left : ∀ c : Dev nD, k0_dev1 (param c 0) = (prv c).val := by decide +kernel
theorem dev_right : ∀ c : Dev nD, k0_dev1 (param c 1) = (nxt c).val := by decide +kernel

/-- The row offset of device `o`'s rows. -/
theorem off_word : ∀ o : Dev nD, k0_off2 (word o) = ![256 * o.val, 0] := by decide +kernel
theorem rows_inb (o : Dev nD) : ∀ a, (![256 * o.val, 0] : Fin 2 → ℕ) a + S256x128.size a ≤ S8192x128.size a := by
  revert o; decide +kernel
theorem chk_word (o : Dev nD) : k0_chk3 (word o) := by
  unfold k0_chk3; rw [off_word]; exact rows_inb o

theorem chk_left (c : Dev nD) : k0_chk1 (param c 0) := by
  have h : k0_dev1 (param c 0) < nD := by rw [dev_left]; exact (prv c).isLt
  unfold k0_chk1
  and_intros <;> exact h
theorem chk_right (c : Dev nD) : k0_chk2 (param c 1) := by
  have h : k0_dev1 (param c 1) < nD := by rw [dev_right]; exact (nxt c).isLt
  unfold k0_chk2
  and_intros <;> exact h

/-- Hop `h`'s parity: which of the two slots it sends from. -/
def odd (h : ℕ) : Bool := decide (h % 2 = 1)
theorem odd_succ (h : ℕ) : odd (h + 1) = !odd h := by
  unfold odd
  by_cases e : h % 2 = 1
  · rw [decide_eq_true e, decide_eq_false (by omega)]; rfl
  · rw [decide_eq_false e, decide_eq_true (by omega)]; rfl
/-- How many of the first `n` hops have parity `b`. -/
def cnt (b : Bool) (n : ℕ) : ℕ := if b then n / 2 else (n + 1) / 2
theorem cnt_self (h : ℕ) : cnt (odd h) h = h / 2 := by
  unfold cnt odd; split <;> rename_i e <;> simp only [decide_eq_true_eq] at e <;> omega
theorem cnt_self_succ (h : ℕ) : cnt (odd h) (h + 1) = h / 2 + 1 := by
  unfold cnt odd; split <;> rename_i e <;> simp only [decide_eq_true_eq] at e <;> omega
theorem cnt_other (h : ℕ) : cnt (!odd h) (h + 1) = cnt (!odd h) h := by
  rw [← odd_succ]
  unfold cnt odd; split <;> rename_i e <;> simp only [decide_eq_true_eq] at e <;> omega
theorem cnt_other_half (h : ℕ) : cnt (!odd h) (h + 1) = (h + 1) / 2 := by
  rw [← odd_succ]; exact cnt_self (h + 1)

end Cert.KernelIdeal

end
-- ==== Proof.Schedule.lean ====
/-
  The cells of the two rings, the slots, and what every unit of every semaphore hands over.

  A hop's copy pays its own send cell with the share of the source lent to it and the receiver's cell with the slot it
  landed in. A free slot is handed back to the sender by the credit semaphore (by the barrier, before the first hop).
-/
module

public import proofs.«01_k».proof.Proof.Ring
public import Idealize.ShloMosaic.Lib.Pipeline.TalkSites
public import Idealize.ShloMosaic.Lib.Pipeline.RegionTalk
public import Idealize.ShloMosaic.Lib.Pipeline.Kit
public import Idealize.ShloMosaic.Lib.Exec.Context

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Gen

variable {F : FTy → Type} [FloatOps F]

/-! ## The resource algebra -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## Semaphores -/

/-- The DMA semaphore that a copy out of slot `s` in direction `d` raises on the sender. -/
def sendSem (d s : Bool) : DmaSem sig := match d, s with | false, false => 4 | false, true => 5 | true, false => 8 | true, true => 9
/-- The DMA semaphore that a copy into slot `s` in direction `d` raises on the receiver. -/
def recvSem (d s : Bool) : DmaSem sig := match d, s with | false, false => 6 | false, true => 7 | true, false => 10 | true, true => 11
/-- The semaphore by which the receiver of direction `d` hands a free slot back. -/
def credSem (d : Bool) : Sem sig := match d with | false => 0 | true => 1

abbrev barCell (c : Dev nD) : GSem nD τ sig := ((c : Thread nD τ), .reg barrier0)
abbrev sendCell (c : Dev nD) (d s : Bool) : GSem nD τ sig := ((c : Thread nD τ), .dma (sendSem d s))
abbrev recvCell (c : Dev nD) (d s : Bool) : GSem nD τ sig := ((c : Thread nD τ), .dma (recvSem d s))
abbrev credCell (c : Dev nD) (d : Bool) : GSem nD τ sig := ((c : Thread nD τ), .reg (credSem d))

/-- What a semaphore is for. -/
inductive Role where
  | bar | cred (d : Bool) | send (d s : Bool) | recv (d s : Bool) | other

def role (sm : SemLoc sig) : Role :=
  match sm with
  | .reg i => if i = 0 then .cred false else if i = 1 then .cred true else .bar
  | .dma i => if i = 4 then .send false false else if i = 5 then .send false true else if i = 6 then .recv false false
      else if i = 7 then .recv false true else if i = 8 then .send true false else if i = 9 then .send true true
      else if i = 10 then .recv true false else if i = 11 then .recv true true else .other

theorem role_bar : role (.reg barrier0) = .bar := rfl
theorem role_cred (d : Bool) : role (.reg (credSem d)) = .cred d := by cases d <;> rfl
theorem role_send (d s : Bool) : role (.dma (sendSem d s)) = .send d s := by cases d <;> cases s <;> rfl
theorem role_recv (d s : Bool) : role (.dma (recvSem d s)) = .recv d s := by cases d <;> cases s <;> rfl

/-! ## Buffers -/

/-- The staged block of rows, and slot `s` of direction `d`. -/
abbrev xM : Memref sig .tc .vmem S256x8192 .f32 := Memref.whole cc0_stg0_0
def slotM (d s : Bool) : Memref sig .tc .vmem S256x8192 .f32 :=
  match d, s with
  | false, false => ((Memref.whole cc0_scratch0).slice (Rect.unit (s := S2x256x8192) ![0, 0, 0] S1x256x8192.size Facts₀.inb_S2x256x8192_S1x256x8192_0_0_0) (fun _ => rfl)).squeeze S256x8192 Facts₀.squeezes_S1x256x8192_S256x8192
  | false, true => ((Memref.whole cc0_scratch0).slice (Rect.unit (s := S2x256x8192) ![1, 0, 0] S1x256x8192.size Facts₀.inb_S2x256x8192_S1x256x8192_1_0_0) (fun _ => rfl)).squeeze S256x8192 Facts₀.squeezes_S1x256x8192_S256x8192
  | true, false => ((Memref.whole cc0_scratch1).slice (Rect.unit (s := S2x256x8192) ![0, 0, 0] S1x256x8192.size Facts₀.inb_S2x256x8192_S1x256x8192_0_0_0) (fun _ => rfl)).squeeze S256x8192 Facts₀.squeezes_S1x256x8192_S256x8192
  | true, true => ((Memref.whole cc0_scratch1).slice (Rect.unit (s := S2x256x8192) ![1, 0, 0] S1x256x8192.size Facts₀.inb_S2x256x8192_S1x256x8192_1_0_0) (fun _ => rfl)).squeeze S256x8192 Facts₀.squeezes_S1x256x8192_S256x8192

/-- The credit of a copy of one block of rows. -/
def N : ℕ := (slotM false true).view.dmaCredit
theorem N_pos : 0 < N := View.dmaCredit_pos _ (by decide)
theorem amount_slot (d s : Bool) (sm : DmaSem sig) : (slotM d s).view.amount (.dma sm) = N := by cases d <;> cases s <;> rfl

/-- Device `c` holds share `q` of memref `M`, which reads `X`. -/
def mp {sp : Space} {s : Shape} {e : EltTy} (M : Memref sig .tc sp s e) (c : Dev nD) (q : PosShare TreeShare) (X : s.Idx → Elt F e) : sProp 𝕄 :=
  M.view.loc (c : Thread nD τ) ↦[M.view.set]{q} M.view.rep X

instance mp_storable {sp : Space} {s : Shape} {e : EltTy} (M : Memref sig .tc sp s e) (c : Dev nD) (q : PosShare TreeShare) (X : s.Idx → Elt F e) :
    BI.Storable (upEmb : UEmb _ 𝕄) (mp M c q X) := by unfold mp; infer_instance

theorem mp_share {sp : Space} {s : Shape} {e : EltTy} (M : Memref sig .tc sp s e) (c : Dev nD) (q : PosShare TreeShare) (X : s.Idx → Elt F e) :
    (mp M c q X : sProp 𝕄) ⊣⊢ iprop(mp M c q.left X ∗ mp M c q.right X) :=
  pointsTo_share (PosShare.mem_left_op_right q)

/-- Slot `s` of direction `d` on device `c`, at contents nobody names. -/
def free (d s : Bool) (c : Dev nD) : sProp 𝕄 := iprop(∃ Y : S256x8192.Idx → Elt F .f32, mp (slotM d s) c fullShare Y)
instance free_storable (d s : Bool) (c : Dev nD) : BI.Storable (upEmb : UEmb _ 𝕄) (free (F := F) d s c) := by unfold free; infer_instance

/-- The share of the source that the copy of hop `h` is lent. -/
def lentQ (d : Bool) (h : ℕ) : PosShare TreeShare :=
  match h with
  | 0 => if d then fullShare.left.right else fullShare.left.left
  | _ + 1 => fullShare.left

/-- What hop `h` of direction `d` copies: the staged rows at first, then the slot of its parity. -/
def srcM (d : Bool) (h : ℕ) : Memref sig .tc .vmem S256x8192 .f32 :=
  match h with
  | 0 => xM
  | h + 1 => slotM d (odd (h + 1))

variable (X : Dev nD → S256x8192.Idx → Elt F .f32)

/-- The lent share of hop `h`'s source. -/
def lent (d : Bool) (c : Dev nD) (h : ℕ) : sProp 𝕄 := mp (srcM d h) c (lentQ d h) (X (src d c h))

/-! ## The schedule -/

/-- Paid to `c`'s barrier cell by its neighbour in direction `d`: that neighbour's slot 1. -/
def barPay (c : Dev nD) (d : Bool) : sProp 𝕄 := iprop(free d true (fw d c) ∗ reached ER (recvCell (fw d c) d true) 0)
/-- Paid to `c`'s credit cell, round `h`, by its neighbour in direction `d`: the slot that neighbour has sent on. -/
def credPay (c : Dev nD) (d : Bool) (h : ℕ) : sProp 𝕄 :=
  iprop(free d (odd h) (fw d c) ∗ reached ER (recvCell (fw d c) d (odd h)) ((h + 1) / 2))
/-- Paid by hop `h`'s copy to the receiver `c`: the slot, holding the rows sent; and that the sender has waited for its credits. -/
def recvPay (c : Dev nD) (d : Bool) (h : ℕ) : sProp 𝕄 :=
  iprop(mp (slotM d (!odd h)) c fullShare (X (src d c (h + 1))) ∗ reached ER (credCell (bw d c) d) h)

/-- The hop whose copy raises the send cell of slot `s` in round `r`; the receive cell's. -/
def hopS (s : Bool) (r : ℕ) : ℕ := 2 * r + s.toNat
def hopR (s : Bool) (r : ℕ) : ℕ := 2 * r + (!s).toNat
theorem hopS_half (h : ℕ) : hopS (odd h) (h / 2) = h := by
  unfold hopS odd; by_cases e : h % 2 = 1
  · rw [decide_eq_true e, Bool.toNat_true]; omega
  · rw [decide_eq_false e, Bool.toNat_false]; omega
theorem hopR_half (h : ℕ) : hopR (!odd h) (h / 2) = h := by
  unfold hopR; rw [Bool.not_not]; exact hopS_half h

def rd : Rounds.Schedule (GSem nD τ sig) Bool 𝕄 where
  duties g r := match role g.2 with
    | .bar => if r = 0 then Finset.univ else ∅
    | .cred d => if r + 1 < hops d then {false} else ∅
    | .send d s => if hopS s r < hops d then {false} else ∅
    | .recv d s => if hopR s r < hops d then {false} else ∅
    | .other => ∅
  unitless _ := False
  amount g _ _ := match role g.2 with
    | .send _ _ => N
    | .recv _ _ => N
    | _ => 1
  payload g r u := match role g.2 with
    | .bar => barPay g.1.1 u
    | .cred d => credPay g.1.1 d r
    | .send d s => lent X d g.1.1 (hopS s r)
    | .recv d s => recvPay X g.1.1 d (hopR s r)
    | .other => iprop(emp)
  amount_pos g _ _ _ := by
    cases role g.2 <;> first | exact Nat.one_pos | exact N_pos

instance rd_storable (g : GSem nD τ sig) (r : ℕ) (u : Bool) : BI.Storable (upEmb : UEmb _ 𝕄) ((rd X).payload g r u) := by
  show BI.Storable upEmb (match role g.2 with
    | .bar => barPay g.1.1 u
    | .cred d => credPay g.1.1 d r
    | .send d s => lent X d g.1.1 (hopS s r)
    | .recv d s => recvPay X g.1.1 d (hopR s r)
    | .other => iprop(emp))
  unfold barPay credPay lent recvPay
  split <;> infer_instance

section Sched
variable (c : Dev nD) (d : Bool) (h : ℕ)

theorem duties_bar : (rd X).duties (barCell c) 0 = Finset.univ := by dsimp only [rd]; rw [role_bar]; rfl
theorem duties_cred (hh : h + 1 < hops d) : (rd X).duties (credCell c d) h = {false} := by dsimp only [rd]; rw [role_cred]; exact if_pos hh
theorem duties_send (hh : h < hops d) : (rd X).duties (sendCell c d (odd h)) (h / 2) = {false} := by
  dsimp only [rd]; rw [role_send]; exact if_pos (by rw [hopS_half]; exact hh)
theorem duties_recv (hh : h < hops d) : (rd X).duties (recvCell c d (!odd h)) (h / 2) = {false} := by
  dsimp only [rd]; rw [role_recv]; exact if_pos (by rw [hopR_half]; exact hh)

theorem amount_bar (r : ℕ) (u : Bool) : (rd X).amount (barCell c) r u = 1 := by dsimp only [rd]; rw [role_bar]
theorem amount_cred (r : ℕ) (u : Bool) : (rd X).amount (credCell c d) r u = 1 := by dsimp only [rd]; rw [role_cred]
theorem amount_send (s : Bool) (r : ℕ) (u : Bool) : (rd X).amount (sendCell c d s) r u = N := by dsimp only [rd]; rw [role_send]
theorem amount_recv (s : Bool) (r : ℕ) (u : Bool) : (rd X).amount (recvCell c d s) r u = N := by dsimp only [rd]; rw [role_recv]

theorem expect_bar : (rd X).expect (barCell c) 0 = 2 := by
  unfold Schedule.expect Schedule.amountOf; rw [duties_bar, Finset.sum_congr rfl fun u _ => amount_bar X c 0 u]; rfl
theorem expect_cred (hh : h + 1 < hops d) : (rd X).expect (credCell c d) h = 1 := by
  unfold Schedule.expect Schedule.amountOf; rw [duties_cred X c d h hh, Finset.sum_singleton, amount_cred]
theorem expect_send (hh : h < hops d) : (rd X).expect (sendCell c d (odd h)) (h / 2) = N := by
  unfold Schedule.expect Schedule.amountOf; rw [duties_send X c d h hh, Finset.sum_singleton, amount_send]
theorem expect_recv (hh : h < hops d) : (rd X).expect (recvCell c d (!odd h)) (h / 2) = N := by
  unfold Schedule.expect Schedule.amountOf; rw [duties_recv X c d h hh, Finset.sum_singleton, amount_recv]

theorem payload_bar (u : Bool) : (rd X).payload (barCell c) 0 u = barPay c u := by dsimp only [rd]; rw [role_bar]
theorem payload_cred (u : Bool) : (rd X).payload (credCell c d) h u = credPay c d h := by dsimp only [rd]; rw [role_cred]
theorem payload_send (u : Bool) : (rd X).payload (sendCell c d (odd h)) (h / 2) u = lent X d c h := by
  dsimp only [rd]; rw [role_send]; show lent X d c (hopS (odd h) (h / 2)) = _; rw [hopS_half]
theorem payload_recv (u : Bool) : (rd X).payload (recvCell c d (!odd h)) (h / 2) u = recvPay X c d h := by
  dsimp only [rd]; rw [role_recv]; show recvPay X c d (hopR (!odd h) (h / 2)) = _; rw [hopR_half]

theorem rest_bar : bigSep ((rd X).duties (barCell c) 0 \ ∅) (fun u => (rd X).payload (barCell c) 0 u) = (iprop(barPay c false ∗ barPay c true) : sProp 𝕄) := by
  rw [Finset.sdiff_empty, duties_bar, show (Finset.univ : Finset Bool) = {false, true} from by decide, bigSep_insert (by decide), bigSep_singleton, payload_bar, payload_bar]; rfl
theorem rest_cred (hh : h + 1 < hops d) : bigSep ((rd X).duties (credCell c d) h \ ∅) (fun u => (rd X).payload (credCell c d) h u) = (credPay c d h : sProp 𝕄) := by
  rw [Finset.sdiff_empty, duties_cred X c d h hh, bigSep_singleton, payload_cred]
theorem rest_send (hh : h < hops d) : bigSep ((rd X).duties (sendCell c d (odd h)) (h / 2) \ ∅) (fun u => (rd X).payload (sendCell c d (odd h)) (h / 2) u) = (lent X d c h : sProp 𝕄) := by
  rw [Finset.sdiff_empty, duties_send X c d h hh, bigSep_singleton, payload_send]
theorem rest_recv (hh : h < hops d) : bigSep ((rd X).duties (recvCell c d (!odd h)) (h / 2) \ ∅) (fun u => (rd X).payload (recvCell c d (!odd h)) (h / 2) u) = (recvPay X c d h : sProp 𝕄) := by
  rw [Finset.sdiff_empty, duties_recv X c d h hh, bigSep_singleton, payload_recv]

/-- No duty after the last hop. -/
theorem late_bar : ∀ r, 1 ≤ r → (rd X).duties (barCell c) r = ∅ := fun r hr => by dsimp only [rd]; rw [role_bar]; exact if_neg (by omega)
theorem late_cred : ∀ r, hops d - 1 ≤ r → (rd X).duties (credCell c d) r = ∅ := fun r hr => by dsimp only [rd]; rw [role_cred]; exact if_neg (by omega)
theorem late_send (b : Bool) : ∀ r, cnt b (hops d) ≤ r → (rd X).duties (sendCell c d b) r = ∅ := fun r hr => by
  dsimp only [rd]; rw [role_send]; refine if_neg ?_
  unfold hopS; cases b <;> simp only [cnt, Bool.toNat_true, Bool.toNat_false, if_true, Bool.false_eq_true, if_false] at hr ⊢ <;> omega
theorem late_recv (b : Bool) : ∀ r, cnt b (hops d) ≤ r → (rd X).duties (recvCell c d (!b)) r = ∅ := fun r hr => by
  dsimp only [rd]; rw [role_recv]; refine if_neg ?_
  unfold hopR; cases b <;> simp only [cnt, Bool.not_not, Bool.toNat_true, Bool.toNat_false, if_true, Bool.false_eq_true, if_false] at hr ⊢ <;> omega

end Sched

/-! ## What a device pays, in program order -/

/-- A payment to another device: at the barrier, a copy's landing, a slot given back. -/
inductive Kind where
  | bar | put | ack
deriving DecidableEq

/-- A payment: what kind, in which direction's ring, at which hop. -/
abbrev Ent := Kind × Bool × ℕ

def semOf : Ent → SemLoc sig
  | (.bar, _, _) => .reg barrier0
  | (.put, d, h) => .dma (recvSem d (!odd h))
  | (.ack, d, _) => .reg (credSem d)
def rnd : Ent → ℕ
  | (.bar, _, _) => 0
  | (.put, _, h) => h / 2
  | (.ack, _, h) => h
def duty : Ent → Bool
  | (.bar, d, _) => d
  | _ => false
def units : Ent → ℕ
  | (.put, _, _) => N
  | _ => 1
/-- The level of a payment: the barrier first, then a hop's landing, then its slot given back. -/
def ix : Ent → ℕ
  | (.bar, _, _) => 1
  | (.put, _, h) => 2 * h + 2
  | (.ack, _, h) => 2 * h + 3
/-- The device a payment goes to; the device it comes from. -/
def payee (c : Dev nD) : Ent → Dev nD
  | (.put, d, _) => fw d c
  | (_, d, _) => bw d c
def payer (c : Dev nD) : Ent → Dev nD
  | (.put, d, _) => bw d c
  | (_, d, _) => fw d c
theorem payer_payee (c : Dev nD) (e : Ent) : payer (payee c e) e = c := by
  obtain ⟨k, d, h⟩ := e; cases k <;> first | exact bw_fw d c | exact fw_bw d c
theorem payee_payer (c : Dev nD) (e : Ent) : payee (payer c e) e = c := by
  obtain ⟨k, d, h⟩ := e; cases k <;> first | exact bw_fw d c | exact fw_bw d c

/-- All payments of a device, in program order. The waits for the payments a device gets come in the same order. -/
def dues : List Ent :=
  [(.bar, false, 0), (.bar, true, 0)] ++ (List.range 16).flatMap fun h =>
    [(.put, false, h)] ++ (if h < 15 then [(.put, true, h)] else []) ++ (if h < 15 then [(.ack, false, h)] else [])
      ++ (if h < 14 then [(.ack, true, h)] else [])

/-- Payment `e` as it reaches device `c`, and as `c` makes it. -/
def due (c : Dev nD) (e : Ent) : Pay nD τ sig := (((c : Thread nD τ), semOf e), ix e, units e)
def pay (c : Dev nD) (e : Ent) : Pay nD τ sig := due (payee c e) e

/-- What `c` still owes after its first `k` payments. -/
def owed (c : Dev nD) (k : ℕ) : CellTallies nD τ sig ℕ := tallyL ((dues.drop k).map (pay c))

/-- The duty tokens payment `e` spends: its own, and a copy's for the sender's cell. -/
def tokL (c : Dev nD) (e : Ent) : List (GSem nD τ sig × ℕ × Bool) :=
  (((payee c e : Thread nD τ), semOf e), rnd e, duty e) :: match e with
    | (.put, d, h) => [(sendCell c d (odd h), h / 2, false)]
    | _ => []

/-- The levels in use. -/
abbrev NL : ℕ := 40
abbrev LL : GSem nD τ sig → Finset ℕ := SiteBlocks.L NL
abbrev lv : GSem nD τ sig → ℕ → ℕ := SiteBlocks.lv

theorem levels_exists : ∃ P : sProp 𝕄, P = levAts LL lv := ⟨_, rfl⟩
/-- The level of every index of every cell (kept folded too). -/
def levels : sProp 𝕄 := Classical.choose (levels_exists (F := F))
theorem levels_eq : (levels : sProp 𝕄) = levAts LL lv := Classical.choose_spec levels_exists
instance levels_persistent : BI.Persistent (levels : sProp 𝕄) := by rw [levels_eq]; infer_instance

/-- A wait at level `i` while all that is owed lies above it. -/
theorem mayWait (c : Dev nD) (sm : SemLoc sig) (i k : ℕ) (hi : i < NL) (h : (dues.drop k).all (fun e => decide (i < ix e)) = true) :
    (levels : sProp 𝕄) ⊢ MayWait (c : Thread nD τ) sm i (owed c k) := by
  rw [levels_eq]
  exact SiteBlocks.mayWait_of hi c sm _ fun g n hg => by
    obtain ⟨x, hx, rfl, rfl⟩ := TalkSites.tallyL_pos hg
    obtain ⟨e, he, rfl⟩ := List.mem_map.mp hx
    refine ⟨SiteBlocks.mem_L' rfl ?_, of_decide_eq_true (List.all_eq_true.mp h e he)⟩
    have : ∀ e ∈ dues, ix e < NL := by decide +kernel
    exact this e (List.mem_of_mem_drop he)

/-! ## The family of cells -/

/-- The scoped semaphores of the kernel. -/
def inner : Finset (SemLoc sig) :=
  {.dma 4, .dma 5, .dma 6, .dma 7, .dma 8, .dma 9, .dma 10, .dma 11, .reg 0, .reg 1}

def payerOf (x : GSem nD τ sig × ℕ × Bool) : Dev nD :=
  match role x.1.2 with
  | .bar => fw x.2.2 x.1.1.1
  | .cred d => fw d x.1.1.1
  | .recv d _ => bw d x.1.1.1
  | _ => x.1.1.1

theorem payerOf_tokL (c : Dev nD) (e : Ent) : ∀ x ∈ tokL c e, payerOf x = c := fun x hx => by
  obtain ⟨k, d, h⟩ := e
  cases k
  · obtain rfl := List.mem_singleton.mp hx
    show (match role (.reg barrier0) with | .bar => fw d (bw d c) | .cred d' => fw d' (bw d c) | .recv d' _ => bw d' (bw d c) | _ => bw d c) = c
    rw [role_bar]; exact fw_bw d c
  · rcases List.mem_cons.mp hx with rfl | hx
    · show (match role (.dma (recvSem d (!odd h))) with | .bar => fw false (fw d c) | .cred d' => fw d' (fw d c) | .recv d' _ => bw d' (fw d c) | _ => fw d c) = c
      rw [role_recv]; exact bw_fw d c
    · obtain rfl := List.mem_singleton.mp hx
      show (match role (.dma (sendSem d (odd h))) with | .bar => fw false c | .cred d' => fw d' c | .recv d' _ => bw d' c | _ => c) = c
      rw [role_send]
  · obtain rfl := List.mem_singleton.mp hx
    show (match role (.reg (credSem d)) with | .bar => fw false (bw d c) | .cred d' => fw d' (bw d c) | .recv d' _ => bw d' (bw d c) | _ => bw d c) = c
    rw [role_cred]; exact fw_bw d c

def fam : Fam nD τ sig Bool 1 where
  bar := .reg barrier0
  dorm _ := inner
  toks c _ := (dues.flatMap (tokL c)).toFinset
  semKey _ := 0
  hsem _ _ _ := Subsingleton.elim _ _
  hbar _ := by decide +kernel
  tokKey x := (payerOf x, 0)
  htok c j x hx := by
    obtain ⟨e, -, he⟩ := List.mem_flatMap.mp (List.mem_toFinset.mp hx)
    rw [payerOf_tokL c e x he]
    exact Prod.ext rfl (Subsingleton.elim _ _)

theorem mem_send (d s : Bool) : (SemLoc.dma (sendSem d s) : SemLoc sig) ∈ inner := by cases d <;> cases s <;> decide +kernel
theorem mem_recv (d s : Bool) : (SemLoc.dma (recvSem d s) : SemLoc sig) ∈ inner := by cases d <;> cases s <;> decide +kernel
theorem mem_cred (d : Bool) : (SemLoc.reg (credSem d) : SemLoc sig) ∈ inner := by cases d <;> decide +kernel

theorem invs_exists (κ : GSem nD τ sig → ℕ) : ∃ P : sProp 𝕄, P = fam.cellInvs ER (rd X) κ := ⟨_, rfl⟩
/-- Every cell's invariant, at the names `κ` (kept folded: the family is large). -/
def invs (κ : GSem nD τ sig → ℕ) : sProp 𝕄 := Classical.choose (invs_exists X κ)
theorem invs_eq (κ : GSem nD τ sig → ℕ) : invs X κ = fam.cellInvs ER (rd X) κ := Classical.choose_spec (invs_exists X κ)
instance invs_persistent (κ : GSem nD τ sig → ℕ) : BI.Persistent (invs X κ) := by rw [invs_eq]; infer_instance

theorem inv_bar (κ : GSem nD τ sig → ℕ) (c : Dev nD) : invs X κ ⊢ cellInv ER (rd X) (κ (barCell c)) (barCell c) := by
  rw [invs_eq]; exact fam.cellInvs_bar ER (rd X) κ c
theorem inv_send (κ : GSem nD τ sig → ℕ) (c : Dev nD) (d s : Bool) : invs X κ ⊢ cellInv ER (rd X) (κ (sendCell c d s)) (sendCell c d s) := by
  rw [invs_eq]; exact fam.cellInvs_dorm ER (rd X) κ c (j := 0) (mem_send d s)
theorem inv_recv (κ : GSem nD τ sig → ℕ) (c : Dev nD) (d s : Bool) : invs X κ ⊢ cellInv ER (rd X) (κ (recvCell c d s)) (recvCell c d s) := by
  rw [invs_eq]; exact fam.cellInvs_dorm ER (rd X) κ c (j := 0) (mem_recv d s)
theorem inv_cred (κ : GSem nD τ sig → ℕ) (c : Dev nD) (d : Bool) : invs X κ ⊢ cellInv ER (rd X) (κ (credCell c d)) (credCell c d) := by
  rw [invs_eq]; exact fam.cellInvs_dorm ER (rd X) κ c (j := 0) (mem_cred d)

end Cert.KernelIdeal

end
-- ==== Proof.State.lean ====
/-
  What a device holds between two of its operations: its dues, and for each direction's ring how far the hop has come.
-/
module

public import proofs.«01_k».proof.Proof.Schedule
public import proofs.«01_k».proof.Proof.Gen.KernelIdeal.Skeleton
public import Idealize.ShloMosaic.Lib.Pipeline.BigSepL

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Gen

variable {F : FTy → Type} [FloatOps F]

local notation "𝕄" => MT nD τ sig ℕ (Elt F) ℕ UU ℕ

abbrev 𝒱₀ : Variants := Variants.none

/-- The kernel's triple on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Positions -/

/-- The owner's position on a cell, at the start of round `r`. -/
def at' (g : GSem nD τ sig) (r : ℕ) : sProp 𝕄 := iprop(atPos ER g r ∅ 0 ∗ reached ER g r)

theorem at_reached (g : GSem nD τ sig) (r : ℕ) : (at' g r : sProp 𝕄) ⊢ iprop(reached ER g r ∗ at' g r) := by
  unfold at'; iintro ⟨Ha, #Hr⟩
  isplitr; · iexact Hr
  isplitl [Ha]; · iexact Ha
  iexact Hr

/-- The positions on the two send cells of direction `d` after `h` hops; on the two receive cells. -/
def snd (d : Bool) (c : Dev nD) (h : ℕ) : sProp 𝕄 := iprop(at' (sendCell c d false) (cnt false h) ∗ at' (sendCell c d true) (cnt true h))
def rcv (d : Bool) (c : Dev nD) (h : ℕ) : sProp 𝕄 := iprop(at' (recvCell c d true) (cnt false h) ∗ at' (recvCell c d false) (cnt true h))

theorem snd_split (d : Bool) (c : Dev nD) (h : ℕ) (b : Bool) :
    (snd d c h : sProp 𝕄) ⊣⊢ iprop(at' (sendCell c d b) (cnt b h) ∗ at' (sendCell c d (!b)) (cnt (!b) h)) := by
  unfold snd
  cases b
  · exact .rfl
  · exact ⟨sep_comm, sep_comm⟩
theorem rcv_split (d : Bool) (c : Dev nD) (h : ℕ) (b : Bool) :
    (rcv d c h : sProp 𝕄) ⊣⊢ iprop(at' (recvCell c d (!b)) (cnt b h) ∗ at' (recvCell c d b) (cnt (!b) h)) := by
  unfold rcv
  cases b
  · exact .rfl
  · exact ⟨sep_comm, sep_comm⟩

theorem snd_step (d : Bool) (c : Dev nD) (h : ℕ) :
    (snd d c h : sProp 𝕄) ⊢ iprop(at' (sendCell c d (odd h)) (h / 2) ∗ (at' (sendCell c d (odd h)) (h / 2 + 1) -∗ snd d c (h + 1))) := by
  refine (snd_split d c h (odd h)).1.trans ?_
  rw [cnt_self]
  iintro ⟨Ha, Hb⟩
  isplitl [Ha]; · iexact Ha
  iintro Ha
  iapply (snd_split d c (h + 1) (odd h)).2
  rw [cnt_self_succ, cnt_other]
  isplitl [Ha] <;> iassumption
theorem rcv_step (d : Bool) (c : Dev nD) (h : ℕ) :
    (rcv d c h : sProp 𝕄) ⊢ iprop(at' (recvCell c d (!odd h)) (h / 2) ∗ (at' (recvCell c d (!odd h)) (h / 2 + 1) -∗ rcv d c (h + 1))) := by
  refine (rcv_split d c h (odd h)).1.trans ?_
  rw [cnt_self]
  iintro ⟨Ha, Hb⟩
  isplitl [Ha]; · iexact Ha
  iintro Ha
  iapply (rcv_split d c (h + 1) (odd h)).2
  rw [cnt_self_succ, cnt_other]
  isplitl [Ha] <;> iassumption
theorem snd_reached (d : Bool) (c : Dev nD) (h : ℕ) :
    (snd d c h : sProp 𝕄) ⊢ iprop(reached ER (sendCell c d (odd h)) (h / 2) ∗ snd d c h) := by
  refine (snd_split d c h (odd h)).1.trans ?_
  iintro ⟨Ha, Hb⟩
  ihave H := (at_reached (sendCell c d (odd h)) (cnt (odd h) h)) $$ Ha
  icases H with ⟨Hr, Ha⟩
  isplitl [Hr]; · rw [cnt_self]; iexact Hr
  iapply (snd_split d c h (odd h)).2
  isplitl [Ha] <;> iassumption
theorem rcv_reached (d : Bool) (c : Dev nD) (h : ℕ) :
    (rcv d c (h + 1) : sProp 𝕄) ⊢ iprop(reached ER (recvCell c d (odd h)) ((h + 1) / 2) ∗ rcv d c (h + 1)) := by
  refine (rcv_split d c (h + 1) (odd h)).1.trans ?_
  iintro ⟨Ha, Hb⟩
  ihave H := (at_reached (recvCell c d (odd h)) (cnt (!odd h) (h + 1))) $$ Hb
  icases H with ⟨Hr, Hb⟩
  isplitl [Hr]; · rw [cnt_other_half]; iexact Hr
  iapply (rcv_split d c (h + 1) (odd h)).2
  isplitl [Ha] <;> iassumption
theorem rcv_reached0 (d : Bool) (c : Dev nD) : (rcv d c 0 : sProp 𝕄) ⊢ iprop(reached ER (recvCell c d true) 0 ∗ rcv d c 0) := by
  unfold rcv
  iintro ⟨Ha, Hb⟩
  ihave H := (at_reached (recvCell c d true) (cnt false 0)) $$ Ha
  icases H with ⟨Hr, Ha⟩
  isplitl [Hr]; · iexact Hr
  isplitl [Ha] <;> iassumption

/-! ## One direction's ring -/

variable (X : Dev nD → S256x8192.Idx → Elt F .f32)

/-- What stays with the device while hop `h`'s copy is lent its share: before the first hop the idle slot 0,
    then the other share of the source. -/
def kept (d : Bool) (c : Dev nD) (h : ℕ) : sProp 𝕄 :=
  match h with
  | 0 => free d false c
  | h + 1 => mp (slotM d (odd (h + 1))) c fullShare.right (X (src d c (h + 1)))
/-- The share of the staged rows that the first hop was lent, once back. -/
def xback (d : Bool) (c : Dev nD) (h : ℕ) : sProp 𝕄 :=
  match h with
  | 0 => iprop(emp)
  | _ + 1 => mp xM c (lentQ d 0) (X c)

/-- How far direction `d`'s ring has come: before the barrier; waiting for hop `h`'s credit; free to send; the copy in
    flight; the copy out; and the next rows in. -/
inductive Stg where
  | pre | idle (h : ℕ) | ready (h : ℕ) | fly (h : ℕ) | sent (h : ℕ) | done (h : ℕ)

def Chan (d : Bool) (c : Dev nD) : Stg → sProp 𝕄
  | .pre => iprop(snd d c 0 ∗ rcv d c 0 ∗ at' (credCell c d) 0 ∗ lent X d c 0 ∗ kept X d c 0 ∗ free d true c)
  | .idle h => iprop(snd d c h ∗ rcv d c h ∗ at' (credCell c d) (h - 1) ∗ lent X d c h ∗ kept X d c h ∗ xback X d c h)
  | .ready h => iprop(snd d c h ∗ rcv d c h ∗ at' (credCell c d) h ∗ lent X d c h ∗ kept X d c h ∗ xback X d c h
      ∗ free d (!odd h) (fw d c) ∗ reached ER (recvCell (fw d c) d (!odd h)) (h / 2))
  | .fly h => iprop(snd d c h ∗ rcv d c h ∗ at' (credCell c d) h ∗ cred (tallyAt (sendCell c d (odd h)) (2 * h + 2) N) ∗ kept X d c h ∗ xback X d c h)
  | .sent h => iprop(snd d c (h + 1) ∗ rcv d c h ∗ at' (credCell c d) h ∗ lent X d c h ∗ kept X d c h ∗ xback X d c h)
  | .done h => iprop(snd d c (h + 1) ∗ rcv d c (h + 1) ∗ at' (credCell c d) h ∗ lent X d c h ∗ kept X d c h ∗ xback X d c h
      ∗ mp (slotM d (!odd h)) c fullShare (X (src d c (h + 1))) ∗ reached ER (credCell (bw d c) d) h)

/-! ## What both rings share -/

def toks (c : Dev nD) (k : ℕ) : sProp 𝕄 := bigSepL ((dues.drop k).flatMap (tokL c)) fun x => dutyTok ER x.1 x.2.1 x.2.2
def creds (c : Dev nD) (j : ℕ) : sProp 𝕄 := bigSepL ((dues.drop j).map (due c)) fun x => cred x.tally

/-- After `k` payments and the waits for `j`. -/
def Base (κ : GSem nD τ sig → ℕ) (c : Dev nD) (k j : ℕ) : sProp 𝕄 :=
  iprop(invs X κ ∗ levels ∗ (reached ER (barCell (bw false c)) 0 ∗ reached ER (barCell (bw true c)) 0)
    ∗ atPos ER (barCell c) (if j = 0 then 0 else 1) ∅ 0
    ∗ (∃ W, owes (c : Thread nD τ) (owed c k) W) ∗ toks c k ∗ creds c j)

theorem drop_cons {k : ℕ} {e : Ent} (hk : dues[k]? = some e) : dues.drop k = e :: dues.drop (k + 1) := by
  obtain ⟨h, rfl⟩ := List.getElem?_eq_some_iff.mp hk
  exact List.drop_eq_getElem_cons h

theorem owed_step (c : Dev nD) {k : ℕ} {e : Ent} (hk : dues[k]? = some e) :
    owed c k = owed c (k + 1) + tallyAt ((payee c e : Thread nD τ), semOf e) (ix e) (units e) := by
  unfold owed; rw [drop_cons hk, List.map_cons]; exact add_comm _ _
theorem toks_step (c : Dev nD) {k : ℕ} {e : Ent} (hk : dues[k]? = some e) :
    (toks c k : sProp 𝕄) = iprop(bigSepL (tokL c e) (fun x => dutyTok ER x.1 x.2.1 x.2.2) ∗ toks c (k + 1)) := by
  unfold toks; rw [drop_cons hk, List.flatMap_cons, bigSepL_append]
theorem creds_step (c : Dev nD) {j : ℕ} {e : Ent} (hj : dues[j]? = some e) :
    (creds c j : sProp 𝕄) = iprop(cred (tallyAt ((c : Thread nD τ), semOf e) (ix e) (units e)) ∗ creds c (j + 1)) := by
  unfold creds; rw [drop_cons hj, List.map_cons]; exact bigSepL_cons _ _ _

/-! ## The staged operands and the result -/

abbrev wM : Memref sig .tc .vmem S8192x128 .f32 := Memref.whole cc0_stg1_0
abbrev pM : Memref sig .tc .smem S33 .i32 := Memref.whole cc0_stg2_0
abbrev oM : Memref sig .tc .vmem S8192x128 .f32 := Memref.whole cc0_stg3_0

/-- A block of rows times the staged columns. -/
def gemm (x : S256x8192.Idx → Elt F .f32) (w : S8192x128.Idx → Elt F .f32) : S256x128.Idx → Elt F .f32 :=
  k0_pay2 x w

/-- The rows of the result that origin `o`'s block makes. -/
abbrev rows (o : Dev nD) : Rect S8192x128 := Rect.unit (s := S8192x128) ![256 * o.val, 0] S256x128.size (rows_inb o)

variable (w : S8192x128.Idx → Elt F .f32)

/-- The result buffer holds the product of every origin's rows in `S`. -/
def Agree (f : oM.view.ty.Contents (Elt F)) (S : Dev nD → Prop) : Prop :=
  ∀ o, S o → (oM.access (rows o)).read (Elt F) f = gemm (X o) w

theorem Agree.store {f : oM.view.ty.Contents (Elt F)} {S S' : Dev nD → Prop} (h : Agree X w f S) (o : Dev nD)
    (hS : ∀ o', S' o' → o' = o ∨ S o') (v : S256x128.Idx → Elt F .f32) (hv : v = gemm (X o) w) :
    Agree X w ((oM.access (rows o)).write (Elt F) f v Finset.univ) S' := fun o' ho' => by
  by_cases he : o' = o
  · subst he hv; exact View.read_write_univ (v := oM.access (rows o')) f (gemm (X o') w)
  · rw [← h o' ((hS o' ho').resolve_left he)]
    refine View.read_slice_write_slice_of_disjoint (rows o') (rows o) f v Finset.univ ?_
    have hd : Disjoint (rows o').set (rows o).set := LoadRect.disjoint_of_separated (rows o').toLoadRect (rows o).toLoadRect 0 (by
      have hne : o'.val ≠ o.val := fun h => he (Fin.ext h)
      rcases Nat.lt_or_gt_of_ne hne with hlt | hlt
      · left; right
        show 256 * o'.val + 1 * (256 - 1) < 256 * o.val
        omega
      · right; right
        show 256 * o.val + 1 * (256 - 1) < 256 * o'.val
        omega)
    show Disjoint (oM.view.slice (rows o')).set (oM.view.slice (rows o)).set
    rw [View.set_slice, View.set_slice]
    exact View.disjoint_setOn oM.view hd

/-- The origins multiplied so far: the device's own, `a` from its left and `b` from its right. -/
def cov (c : Dev nD) (a b : ℕ) (o : Dev nD) : Prop :=
  o = c ∨ (∃ k < a, o = src false c (k + 1)) ∨ ∃ k < b, o = src true c (k + 1)

def own0 (_ : Dev nD) : Prop := False

theorem cov_own (c : Dev nD) : ∀ o, cov c 0 0 o → o = c ∨ own0 o := by
  rintro o (h | ⟨k, hk, -⟩ | ⟨k, hk, -⟩)
  · exact .inl h
  · exact absurd hk (Nat.not_lt_zero k)
  · exact absurd hk (Nat.not_lt_zero k)
theorem cov_R (c : Dev nD) (a b : ℕ) : ∀ o, cov c (a + 1) b o → o = src false c (a + 1) ∨ cov c a b o := by
  rintro o (h | ⟨k, hk, h⟩ | h)
  · exact .inr (.inl h)
  · rcases Nat.lt_or_ge k a with hlt | hge
    · exact .inr (.inr (.inl ⟨k, hlt, h⟩))
    · obtain rfl : k = a := by omega
      exact .inl h
  · exact .inr (.inr (.inr h))
theorem cov_L (c : Dev nD) (a b : ℕ) : ∀ o, cov c a (b + 1) o → o = src true c (b + 1) ∨ cov c a b o := by
  rintro o (h | h | ⟨k, hk, h⟩)
  · exact .inr (.inl h)
  · exact .inr (.inr (.inl h))
  · rcases Nat.lt_or_ge k b with hlt | hge
    · exact .inr (.inr (.inr ⟨k, hlt, h⟩))
    · obtain rfl : k = b := by omega
      exact .inl h
theorem cov_all (c o : Dev nD) : cov c 16 15 o := by
  rcases src_covers c o with h | ⟨k, h⟩ | ⟨k, h⟩
  · exact .inl h
  · exact .inr (.inl ⟨k.val, k.isLt, h⟩)
  · exact .inr (.inr ⟨k.val, k.isLt, h⟩)

def Out (c : Dev nD) (S : Dev nD → Prop) : sProp 𝕄 :=
  iprop(∃ f : oM.view.ty.Contents (Elt F), (oM.view.loc (c : Thread nD τ) ↦[Finset.univ]{fullShare} f) ∗ ⌜Agree X w f S⌝)

/-- The operands a device only reads. -/
def Ops (c : Dev nD) : sProp 𝕄 :=
  iprop(mp xM c fullShare.right (X c) ∗ mp wM c fullShare w ∗ mp pM c fullShare (fun i => (words c i : Elt F .i32)))

/-- The whole state. -/
def St (κ : GSem nD τ sig → ℕ) (c : Dev nD) (k j : ℕ) (sR sL : Stg) (S : Dev nD → Prop) : sProp 𝕄 :=
  iprop(Base X κ c k j ∗ Chan X false c sR ∗ Chan X true c sL ∗ Ops X w c ∗ Out X w c S)

end Cert.KernelIdeal

end
-- ==== Proof.Slots.lean ====
/-
  A scratch buffer is its two slots.
-/
module

public import proofs.«01_k».proof.Proof.State
public import Idealize.ShloMosaic.Lib.VecWindow

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig ℕ (Elt F) ℕ UU ℕ

/-- The two slots' rectangles. -/
abbrev slotR0 : Rect S2x256x8192 := Rect.unit (s := S2x256x8192) ![0, 0, 0] S1x256x8192.size Facts₀.inb_S2x256x8192_S1x256x8192_0_0_0
abbrev slotR1 : Rect S2x256x8192 := Rect.unit (s := S2x256x8192) ![1, 0, 0] S1x256x8192.size Facts₀.inb_S2x256x8192_S1x256x8192_1_0_0

theorem slots_disjoint : Disjoint slotR0.set slotR1.set := Rect.unit_disjoint 0 (.inl (by decide))
theorem slots_union : slotR0.set ∪ slotR1.set = Finset.univ := Finset.eq_univ_of_forall fun i => by
  have h0 : (i 0 : ℕ) < 2 := (i 0).isLt
  have h1 : (i 1 : ℕ) < 256 := (i 1).isLt
  have h2 : (i 2 : ℕ) < 8192 := (i 2).isLt
  rw [Finset.mem_union]
  rcases Nat.lt_or_ge (i 0 : ℕ) 1 with h | h
  · left
    rw [Rect.mem_set_unit]
    intro a
    fin_cases a
    · show 0 ≤ (i 0 : ℕ) ∧ (i 0 : ℕ) < 0 + 1; omega
    · show 0 ≤ (i 1 : ℕ) ∧ (i 1 : ℕ) < 0 + 256; omega
    · show 0 ≤ (i 2 : ℕ) ∧ (i 2 : ℕ) < 0 + 8192; omega
  · right
    rw [Rect.mem_set_unit]
    intro a
    fin_cases a
    · show 1 ≤ (i 0 : ℕ) ∧ (i 0 : ℕ) < 1 + 1; omega
    · show 0 ≤ (i 1 : ℕ) ∧ (i 1 : ℕ) < 0 + 256; omega
    · show 0 ≤ (i 2 : ℕ) ∧ (i 2 : ℕ) < 0 + 8192; omega

/-- The scratch buffer of direction `d`, at contents nobody names. -/
def scratch (d : Bool) (c : Dev nD) : sProp 𝕄 :=
  match d with
  | false => iprop(∃ f : Buf (Elt F) ((c : Thread nD τ).loc cc0_scratch0), ((c : Thread nD τ).loc cc0_scratch0) ↦{fullShare} f)
  | true => iprop(∃ f : Buf (Elt F) ((c : Thread nD τ).loc cc0_scratch1), ((c : Thread nD τ).loc cc0_scratch1) ↦{fullShare} f)

theorem slots_of {I J : Finset S2x256x8192.Idx} (hI : I = slotR0.set) (hJ : J = slotR1.set) : Disjoint I J ∧ Finset.univ = I ∪ J := by
  subst hI hJ; exact ⟨slots_disjoint, slots_union.symm⟩
theorem slots_R : Disjoint (α := Finset S2x256x8192.Idx) (slotM false false).view.set (slotM false true).view.set
    ∧ (Finset.univ : Finset S2x256x8192.Idx) = (slotM false false).view.set ∪ (slotM false true).view.set :=
  slots_of ((View.set_reshape _ _).trans (View.set_slice_whole _ _)) ((View.set_reshape _ _).trans (View.set_slice_whole _ _))
theorem slots_L : Disjoint (α := Finset S2x256x8192.Idx) (slotM true false).view.set (slotM true true).view.set
    ∧ (Finset.univ : Finset S2x256x8192.Idx) = (slotM true false).view.set ∪ (slotM true true).view.set :=
  slots_of ((View.set_reshape _ _).trans (View.set_slice_whole _ _)) ((View.set_reshape _ _).trans (View.set_slice_whole _ _))

/-- A buffer held whole is its two parts, and back. -/
theorem parts {ℓ : Loc nD τ sig} {I J : Finset (Idx ℓ)} (h : Disjoint I J ∧ Finset.univ = I ∪ J) (f : Buf (Elt F) ℓ) {P Q : sProp (MT nD τ sig ℕ (Elt F) ℕ UU ℕ)}
    (hP : (ℓ ↦[I]{fullShare} f) ⊢ P) (hQ : (ℓ ↦[J]{fullShare} f) ⊢ Q) : (ℓ ↦{fullShare} f) ⊢ iprop(P ∗ Q) := by
  have e : (ℓ ↦{fullShare} f : sProp 𝕄) = ℓ ↦[I ∪ J]{fullShare} f := by rw [← h.2]
  rw [e]
  exact (pointsTo_union h.1).1.trans (BI.sep_mono hP hQ)
theorem whole {ℓ : Loc nD τ sig} {I J : Finset (Idx ℓ)} (h : Disjoint I J ∧ Finset.univ = I ∪ J) (f g : Buf (Elt F) ℓ) :
    iprop((ℓ ↦[I]{fullShare} f) ∗ (ℓ ↦[J]{fullShare} g)) ⊢ (iprop(∃ f : Buf (Elt F) ℓ, ℓ ↦{fullShare} f) : sProp 𝕄) := by
  refine (pointsTo_join h.1).trans ?_
  rw [← h.2]
  exact exists_intro (Φ := fun f : Buf (Elt F) ℓ => iprop(ℓ ↦{fullShare} f)) _

/-- A view's part of a buffer, at some contents, is the view at what it reads there. -/
theorem free_intro (d s : Bool) (c : Dev nD) (f : (slotM d s).view.ty.Contents (Elt F)) :
    ((slotM d s).view.loc (c : Thread nD τ) ↦[(slotM d s).view.set]{fullShare} f : sProp 𝕄) ⊢ free d s c := by
  unfold free mp
  iintro H
  iexists ((slotM d s).view.read (Elt F) f)
  iapply (pointsTo_rep_of_read (nD := nD) (τ := τ) (Ix := ℕ) (Val := Elt F) (Name := ℕ) (U := UU) (Lvl := ℕ) (c : Thread nD τ) (slotM d s) f fullShare _ rfl) $$ H

theorem scratch_split (d : Bool) (c : Dev nD) : (scratch d c : sProp 𝕄) ⊢ iprop(free d false c ∗ free d true c) := by
  cases d
  · unfold scratch
    iintro ⟨%f, H⟩
    iapply (parts (ℓ := (c : Thread nD τ).loc cc0_scratch0) slots_R f (free_intro false false c f) (free_intro false true c f)) $$ H
  · unfold scratch
    iintro ⟨%f, H⟩
    iapply (parts (ℓ := (c : Thread nD τ).loc cc0_scratch1) slots_L f (free_intro true false c f) (free_intro true true c f)) $$ H

theorem scratch_join (d : Bool) (c : Dev nD) : iprop(free d false c ∗ free d true c) ⊢ (scratch d c : sProp 𝕄) := by
  cases d
  · unfold free mp scratch
    iintro ⟨⟨%Y0, H0⟩, %Y1, H1⟩
    iapply (whole (ℓ := (c : Thread nD τ).loc cc0_scratch0) slots_R ((slotM false false).view.rep Y0) ((slotM false true).view.rep Y1))
    isplitl [H0]
    · iexact H0
    · iexact H1
  · unfold free mp scratch
    iintro ⟨⟨%Y0, H0⟩, %Y1, H1⟩
    iapply (whole (ℓ := (c : Thread nD τ).loc cc0_scratch1) slots_L ((slotM true false).view.rep Y0) ((slotM true true).view.rep Y1))
    isplitl [H0]
    · iexact H0
    · iexact H1

end Cert.KernelIdeal

end
-- ==== Proof.Open.lean ====
/-
  Into the kernel and out of it: the cells of its own semaphores opened and closed, the buffers taken apart and put
  together, and what the result buffer holds at the end.
-/
module

public import proofs.«01_k».proof.Proof.Slots

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig ℕ (Elt F) ℕ UU ℕ

variable (X : Dev nD → S256x8192.Idx → Elt F .f32) (w : S8192x128.Idx → Elt F .f32) (κ : GSem nD τ sig → ℕ) (c : Dev nD)

/-! ## What the result buffer holds -/

/-- The origin of a row of the result, and the row's place in that origin's block. -/
def origin (i : S8192x128.Idx) : Dev nD := ⟨(i 0 : ℕ) / 256, by
  have : (i 0 : ℕ) < 8192 := (i 0).isLt
  show (i 0 : ℕ) / 256 < 32
  omega⟩
def inBlock (i : S8192x128.Idx) : S256x128.Idx := fun a => ⟨(i a : ℕ) % S256x128.size a, Nat.mod_lt _ (by revert a; decide)⟩

/-- Every row is its origin's row times the columns. -/
def outv : S8192x128.Idx → Elt F .f32 := fun i => gemm (X (origin i)) w (inBlock i)

theorem emb_rows (i : S8192x128.Idx) : (rows (origin i)).emb (inBlock i) = i := funext fun a => Fin.ext (by
  rw [Rect.emb_apply]
  fin_cases a
  · show 256 * ((i 0 : ℕ) / 256) + 1 * ((i 0 : ℕ) % 256) = (i 0 : ℕ)
    omega
  · have h : (i 1 : ℕ) < 128 := (i 1).isLt
    show 0 + 1 * ((i 1 : ℕ) % 128) = (i 1 : ℕ)
    omega)

theorem Agree.eq {f : oM.view.ty.Contents (Elt F)} {S : Dev nD → Prop} (h : Agree X w f S) (hS : ∀ o, S o) : f = outv X w := funext fun i => by
  have e := congrFun (h (origin i) (hS _)) (inBlock i)
  refine .trans ?_ e
  show f i = f ((rows (origin i)).emb (inBlock i))
  rw [emb_rows i]

/-! ## A whole buffer -/

theorem mp_whole (b : Ref sig .tc) (q : PosShare TreeShare) (Y : b.ty.Contents (Elt F)) :
    (mp (Memref.whole b) c q Y : sProp 𝕄) = ((c : Thread nD τ).loc b) ↦{q} Y := by
  have e : (Memref.whole b).view.rep (Val := Elt F) Y = Y := (View.read_whole b _).symm.trans (View.read_rep _ Y)
  unfold mp
  rw [e]
  show (((c : Thread nD τ).loc b) ↦[(View.whole b).set]{q} Y : sProp 𝕄) = _
  rw [View.set_whole]

/-! ## The cells of the kernel's own semaphores -/

/-- One assertion at the five cells of direction `d`. -/
def five (Φ : GSem nD τ sig → sProp (MT nD τ sig ℕ (Elt F) ℕ UU ℕ)) (d : Bool) : sProp 𝕄 :=
  iprop(Φ (sendCell c d false) ∗ Φ (sendCell c d true) ∗ Φ (recvCell c d true) ∗ Φ (recvCell c d false) ∗ Φ (credCell c d))

/-- The kernel's own semaphores, in the order of `five`. -/
def osem : Fin 10 → SemLoc sig
  | 0 => .dma (sendSem false false) | 1 => .dma (sendSem false true) | 2 => .dma (recvSem false true) | 3 => .dma (recvSem false false) | 4 => .reg (credSem false)
  | 5 => .dma (sendSem true false) | 6 => .dma (sendSem true true) | 7 => .dma (recvSem true true) | 8 => .dma (recvSem true false) | 9 => .reg (credSem true)

theorem five_five (Φ : GSem nD τ sig → sProp (MT nD τ sig ℕ (Elt F) ℕ UU ℕ)) :
    (bigSepL [0, 1, 2, 3, 4, 5, 6, 7, 8, 9] fun k : Fin 10 => Φ ((c : Thread nD τ), osem k)) ⊣⊢ iprop(five c Φ false ∗ five c Φ true) := by
  unfold five
  show iprop(Φ (sendCell c false false) ∗ Φ (sendCell c false true) ∗ Φ (recvCell c false true) ∗ Φ (recvCell c false false) ∗ Φ (credCell c false) ∗ Φ (sendCell c true false) ∗ Φ (sendCell c true true) ∗ Φ (recvCell c true true) ∗ Φ (recvCell c true false) ∗ Φ (credCell c true)) ⊣⊢ _
  constructor
  · iintro ⟨H0, H1, H2, H3, H4, H5, H6, H7, H8, H9⟩
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    isplitl [H8]; · iexact H8
    iexact H9
  · iintro ⟨⟨H0, H1, H2, H3, H4⟩, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem ownSems_eq : (Pipeline.ownSems0 osem c : sProp 𝕄) ⊣⊢ iprop(five c (fun g => semVal g 0) false ∗ five c (fun g => semVal g 0) true) := by
  unfold Pipeline.ownSems0
  rw [bigSep_univ_eq_bigSepL [0, 1, 2, 3, 4, 5, 6, 7, 8, 9] (by decide) (by decide)]
  exact five_five c fun g => semVal g 0

theorem inner_list : inner = ([0, 1, 2, 3, 4, 5, 6, 7, 8, 9].map osem).toFinset := by decide +kernel
theorem inner_eq (Φ : GSem nD τ sig → sProp (MT nD τ sig ℕ (Elt F) ℕ UU ℕ)) :
    (bigSep inner fun sm => Φ ((c : Thread nD τ), sm)) ⊢ iprop(five c Φ false ∗ five c Φ true) := by
  rw [bigSep_eq_bigSepL_of_eq _ inner_list (by decide +kernel)]
  exact (five_five c Φ).1

/-- The positions on direction `d`'s cells before the kernel's first operation. -/
def pos0 (d : Bool) : sProp 𝕄 := iprop(snd d c 0 ∗ rcv d c 0 ∗ at' (credCell c d) 0)

theorem open_cell (g : GSem nD τ sig) (hg : invs X κ ⊢ cellInv ER (rd X) (κ g) g) :
    iprop(invs X κ ∗ openTok ER g ∗ semVal g 0) ⊢ iprop(|={Set.univ}=> at' g 0) := by
  unfold at'
  iintro ⟨#HI, Ho, Hv⟩
  ihave Hc := hg $$ HI
  iapply (cell_open ER (rd X) (g := g) (κ := κ g) (Set.mem_univ _))
  isplitr; · iexact Hc
  isplitl [Ho] <;> iassumption

theorem open_dir (d : Bool) : iprop(invs X κ ∗ five c (fun g => openTok ER g) d ∗ five c (fun g => semVal g 0) d) ⊢ iprop(|={Set.univ}=> pos0 c d) := by
  unfold five pos0 snd rcv
  iintro ⟨#HI, ⟨O0, O1, O2, O3, O4⟩, V0, V1, V2, V3, V4⟩
  imod (open_cell X κ _ (inv_send X κ c d false)) $$ [O0 V0] with A0
  · isplitr; · iexact HI
    isplitl [O0] <;> iassumption
  imod (open_cell X κ _ (inv_send X κ c d true)) $$ [O1 V1] with A1
  · isplitr; · iexact HI
    isplitl [O1] <;> iassumption
  imod (open_cell X κ _ (inv_recv X κ c d true)) $$ [O2 V2] with A2
  · isplitr; · iexact HI
    isplitl [O2] <;> iassumption
  imod (open_cell X κ _ (inv_recv X κ c d false)) $$ [O3 V3] with A3
  · isplitr; · iexact HI
    isplitl [O3] <;> iassumption
  imod (open_cell X κ _ (inv_cred X κ c d)) $$ [O4 V4] with A4
  · isplitr; · iexact HI
    isplitl [O4] <;> iassumption
  imodintro
  isplitl [A0 A1]
  · isplitl [A0]; · iexact A0
    iexact A1
  isplitl [A2 A3]
  · isplitl [A2]; · iexact A2
    iexact A3
  iexact A4

theorem close_cell (g : GSem nD τ sig) (r : ℕ) (hg : invs X κ ⊢ cellInv ER (rd X) (κ g) g) (late : ∀ r', r ≤ r' → (rd X).duties g r' = ∅) :
    iprop(invs X κ ∗ at' g r) ⊢ iprop(|={Set.univ}=> semVal g 0) := by
  unfold at'
  iintro ⟨#HI, Ha, -⟩
  ihave Hc := hg $$ HI
  iapply (cell_close ER (rd X) (g := g) (κ := κ g) (Set.mem_univ _) id late)
  isplitr; · iexact Hc
  iexact Ha

theorem close_dir (d : Bool) : iprop(invs X κ ∗ snd d c (hops d) ∗ rcv d c (hops d) ∗ at' (credCell c d) (hops d - 1))
    ⊢ iprop(|={Set.univ}=> five c (fun g => semVal g 0) d) := by
  unfold five snd rcv
  iintro ⟨#HI, ⟨A0, A1⟩, ⟨A2, A3⟩, A4⟩
  imod (close_cell X κ _ _ (inv_send X κ c d false) (late_send X c d false)) $$ [A0] with V0
  · isplitr; · iexact HI
    iexact A0
  imod (close_cell X κ _ _ (inv_send X κ c d true) (late_send X c d true)) $$ [A1] with V1
  · isplitr; · iexact HI
    iexact A1
  imod (close_cell X κ _ _ (inv_recv X κ c d true) (late_recv X c d false)) $$ [A2] with V2
  · isplitr; · iexact HI
    iexact A2
  imod (close_cell X κ _ _ (inv_recv X κ c d false) (late_recv X c d true)) $$ [A3] with V3
  · isplitr; · iexact HI
    iexact A3
  imod (close_cell X κ _ _ (inv_cred X κ c d) (late_cred X c d)) $$ [A4] with V4
  · isplitr; · iexact HI
    iexact A4
  imodintro
  isplitl [V0]; · iexact V0
  isplitl [V1]; · iexact V1
  isplitl [V2]; · iexact V2
  isplitl [V3]; · iexact V3
  iexact V4

end Cert.KernelIdeal

end
-- ==== Proof.Rules.lean ====
/-
  One rule per kind of communication in the kernel: what the state becomes across it.
-/
module

public import proofs.«01_k».proof.Proof.State
public import Idealize.ShloMosaic.Lib.VecWindow

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Gen

variable {F : FTy → Type} [FloatOps F]

local notation "𝕄" => MT nD τ sig ℕ (Elt F) ℕ UU ℕ

variable (X : Dev nD → S256x8192.Idx → Elt F .f32) (κ : GSem nD τ sig → ℕ) (c : Dev nD)
variable {α : Type} {Q : α → sProp (MT nD τ sig ℕ (Elt F) ℕ UU ℕ)}

/-- The barrier signal that hands the neighbour in direction `d`'s sending ring this device's slot 1. -/
theorem talk_barrier (d : Bool) (k j : ℕ) (hk : dues[k]? = some (.bar, d, 0)) {n : Dev nD} {s : Sem sig} {z : ℤ}
    {kont : PUnit → Prog (TpuEff nD τ sig (Elt F) Λ₀ .tc) α} (hn : n = bw d c) (hs : s = barrier0) (hz : z = ((1 : ℕ) : ℤ)) :
    iprop(Base X κ c k j ∗ Chan X d c .pre)
      ⊢ iprop((iprop(Base X κ c (k + 1) j ∗ Chan X d c (.idle 0)) -∗ WP c (kont ⟨⟩) Q) -∗ WP c (.op (.semSignal (Dev.tc n) s z) kont) Q) := by
  subst hn hs hz
  unfold Base
  conv => lhs; unfold Chan
  rw [toks_step c hk, show tokL c (.bar, d, 0) = [(barCell (bw d c), 0, d)] from rfl, bigSepL_singleton]
  have hr : iprop(reached ER (barCell (bw false c)) 0 ∗ reached ER (barCell (bw true c)) 0) ⊢ (reached ER (barCell (bw d c)) 0 : sProp 𝕄) := by
    cases d
    · iintro ⟨H, -⟩; iexact H
    · iintro ⟨-, H⟩; iexact H
  iintro ⟨⟨#HI, #HL, #HB, Hat, ⟨%W, HO⟩, ⟨Htok, Htoks⟩, Hcr⟩, ⟨Hs, Hr, Hc, Hl, Hk0, Hf⟩⟩ Hk
  ihave Hrc := (rcv_reached0 (F := F) d c) $$ Hr
  icases Hrc with ⟨Hr1, Hr⟩
  iapply (Rounds.wp_signal 𝒱₀ ER (rd X) (c : Thread nD τ) none (dst := (bw d c : Thread nD τ)) (sem := barrier0) (κ := κ (barCell (bw d c)))
      (r := 0) (d := d) (by rw [duties_bar]; exact Finset.mem_univ d) (amount_bar X (bw d c) 0 d) 1
      (O₀ := owed c k) (owed c (k + 1)) (owed_step c hk)) $$ [HO Htok Hf Hr1]
  · isplitr; · iapply (inv_bar X κ (bw d c)) $$ HI
    isplitl [HO]; · iexact HO
    isplitl [Htok]; · iexact Htok
    isplitl [Hf Hr1]
    · rw [payload_bar]; unfold barPay; rw [fw_bw]
      isplitl [Hf] <;> iassumption
    iapply hr $$ HB
  iintro HO
  iapply Hk
  isplitl [Hat HO Htoks Hcr]
  · isplitr; · iexact HI
    isplitr; · iexact HL
    isplitr; · iexact HB
    isplitl [Hat]; · iexact Hat
    isplitl [HO]; · iexists W; iexact HO
    isplitl [Htoks] <;> iassumption
  · unfold Chan
    isplitl [Hs]; · iexact Hs
    isplitl [Hr]; · iexact Hr
    isplitl [Hc]; · iexact Hc
    isplitl [Hl]; · iexact Hl
    isplitl [Hk0]; · iexact Hk0
    unfold xback; iempintro

/-- The barrier wait: both neighbours' slots 1 come. -/
theorem talk_enter (k : ℕ) (hall : (dues.drop k).all (fun e => decide (1 < ix e)) = true) {s : Sem sig} {z : ℤ}
    {kont : PUnit → Prog (TpuEff nD τ sig (Elt F) Λ₀ .tc) α} (hs : s = barrier0) (hz : z = ((2 : ℕ) : ℤ)) :
    iprop(Base X κ c k 0 ∗ Chan X false c (.idle 0) ∗ Chan X true c (.idle 0))
      ⊢ iprop((iprop(Base X κ c k 2 ∗ Chan X false c (.ready 0) ∗ Chan X true c (.ready 0)) -∗ WP c (kont ⟨⟩) Q) -∗ WP c (.op (.semWait s z) kont) Q) := by
  subst hs hz
  unfold Base
  rw [creds_step c (show dues[0]? = some (.bar, false, 0) from rfl), creds_step c (show dues[0 + 1]? = some (.bar, true, 0) from rfl)]
  have hcr : iprop(cred (tallyAt (barCell c) 1 1) ∗ cred (tallyAt (barCell c) 1 1)) ⊢ (cred (tallyAt (barCell c) 1 2) : sProp 𝕄) := by
    rw [← tallyAt_add (barCell c) 1 1 1]; exact (cred_add _ _).2
  iintro ⟨⟨#HI, #HL, #HB, Hat, ⟨%W, HO⟩, Htoks, ⟨Hc1, Hc2, Hcr⟩⟩, HR, HS⟩ Hk
  rw [if_pos rfl]
  iapply (Rounds.wp_wait_rest_token 𝒱₀ ER (rd X) (c : Thread nD τ) none (κ := κ (barCell c))
      (wpE_semWait_eq 𝒱₀ (c : Thread nD τ) none Set.univ) (Set.mem_univ _) 1 (O := owed c k) (W := W) (R := 0) (m := 0) (T := ∅)
      (by rw [expect_bar])) $$ [Hc1 Hc2 HO Hat]
  · isplitr; · iapply (inv_bar X κ c) $$ HI
    isplitl [Hc1 Hc2]
    · iapply hcr
      isplitl [Hc1]
      · iexact Hc1
      · iexact Hc2
    isplitl [HO]; · iexact HO
    isplitr; · iapply (mayWait c (.reg barrier0) 1 k (by decide) hall) $$ HL
    iexact Hat
  rw [rest_bar]; unfold barPay
  iintro ⟨HO, Hat, -, ⟨Hf1, Hr1⟩, ⟨Hf2, Hr2⟩⟩
  iapply Hk
  isplitl [Hat HO Htoks Hcr]
  · isplitr; · iexact HI
    isplitr; · iexact HL
    isplitr; · iexact HB
    isplitl [Hat]; · iexact Hat
    isplitl [HO]; · iexists _; iexact HO
    isplitl [Htoks]; · iexact Htoks
    iexact Hcr
  unfold Chan
  icases HR with ⟨Ha, Hb, Hc, Hd, He, Hx⟩
  isplitl [Ha Hb Hc Hd He Hx Hf1 Hr1]
  · isplitl [Ha]; · iexact Ha
    isplitl [Hb]; · iexact Hb
    isplitl [Hc]; · iexact Hc
    isplitl [Hd]; · iexact Hd
    isplitl [He]; · iexact He
    isplitl [Hx]; · iexact Hx
    isplitl [Hf1]; · iexact Hf1
    iexact Hr1
  icases HS with ⟨Ha, Hb, Hc, Hd, He, Hx⟩
  isplitl [Ha]; · iexact Ha
  isplitl [Hb]; · iexact Hb
  isplitl [Hc]; · iexact Hc
  isplitl [Hd]; · iexact Hd
  isplitl [He]; · iexact He
  isplitl [Hx]; · iexact Hx
  isplitl [Hf2]; · iexact Hf2
  iexact Hr2

/-- Hop `h`'s copy starts. -/
theorem talk_send (d : Bool) (h k j : ℕ) (hk : dues[k]? = some (.put, d, h)) (hh : h < hops d) {n : Dev nD}
    {a b : Memref sig .tc .vmem S256x8192 .f32} {sS sR : DmaSem sig} {hsc : b.view.ref.isScScratch = false}
    {ha : a.view.WordExact} {hb : b.view.WordExact} {ht : DmaTarget.Typed .vmem (.dma sR) (.remote (Dev.tc n) b (.dma sS) hsc)}
    {kont : PUnit → Prog (TpuEff nD τ sig (Elt F) Λ₀ .tc) α}
    (hn : n = fw d c) (hA : a = srcM d h) (hB : b = slotM d (!odd h)) (hS : sS = sendSem d (odd h)) (hR : sR = recvSem d (!odd h)) :
    iprop(Base X κ c k j ∗ Chan X d c (.ready h))
      ⊢ iprop((iprop(Base X κ c (k + 1) j ∗ Chan X d c (.fly h)) -∗ WP c (kont ⟨⟩) Q)
        -∗ WP c (.op (.enqueueDma a (.remote (Dev.tc n) b (.dma sS) hsc) (.dma sR) ha hb ht) kont) Q) := by
  subst hn hA hB hS hR
  unfold Base
  conv => lhs; unfold Chan
  rw [toks_step c hk, show tokL c (.put, d, h) = [(recvCell (fw d c) d (!odd h), h / 2, false), (sendCell c d (odd h), h / 2, false)] from rfl,
    show bigSepL [(recvCell (fw d c) d (!odd h), h / 2, false), (sendCell c d (odd h), h / 2, false)] (fun x => (dutyTok ER x.1 x.2.1 x.2.2 : sProp 𝕄))
      = iprop(dutyTok ER (recvCell (fw d c) d (!odd h)) (h / 2) false ∗ dutyTok ER (sendCell c d (odd h)) (h / 2) false) from rfl]
  iintro ⟨⟨#HI, #HL, #HB, Hat, ⟨%W, HO⟩, ⟨⟨Ht2, Ht1⟩, Htoks⟩, Hcr⟩, ⟨Hs, Hr, Hc, Hl, Hk0, Hx, Hf, #Hr2⟩⟩ Hk
  unfold free
  icases Hf with ⟨%Y, Hf⟩
  ihave Hs' := (snd_reached (F := F) d c h) $$ Hs
  icases Hs' with ⟨#Hr1, Hs⟩
  ihave Hc' := (at_reached (F := F) (credCell c d) h) $$ Hc
  icases Hc' with ⟨#Hr3, Hc⟩
  unfold lent mp
  iapply (Rounds.wp_send_pointsTo_with 𝒱₀ ER (rd X) (c : Thread nD τ) none (c' := (fw d c : Thread nD τ)) (src := srcM d h) (dst := slotM d (!odd h))
      (sS := .dma (sendSem d (odd h))) (sem := .dma (recvSem d (!odd h))) (q := lentQ d h) (fs := (srcM d h).view.rep (X (src d c h)))
      (fd := (slotM d (!odd h)).view.rep Y) (F := reached ER (credCell c d) h) (κ₁ := κ (sendCell c d (odd h))) (κ₂ := κ (recvCell (fw d c) d (!odd h)))
      (r₁ := h / 2) (r₂ := h / 2) (d₁ := false) (d₂ := false)
      (by rw [duties_send X c d h hh]; exact Finset.mem_singleton_self _) (by rw [duties_recv X (fw d c) d h hh]; exact Finset.mem_singleton_self _)
      (2 * h + 2) (2 * h + 2) N (amount_slot d (!odd h) _) (amount_send X c d (odd h) _ _) (amount_recv X (fw d c) d (!odd h) _ _)
      (O₀ := owed c k) (owed c (k + 1)) (owed_step c hk)
      (by rw [payload_send]; exact .rfl)
      (by
        rw [payload_recv]; unfold recvPay mp
        rw [bw_fw, src_fw]
        refine sep_mono_left ?_
        refine pointsTo_rep_of_read (nD := nD) (τ := τ) (Ix := ℕ) (Val := Elt F) (Name := ℕ) (U := UU) (Lvl := ℕ) (fw d c : Thread nD τ) (slotM d (!odd h)) _ fullShare _ ?_
        rw [View.read_write_univ, View.read_rep])) $$ [HO Ht1 Ht2 Hl Hf]
  · isplitr; · iapply (inv_send X κ c d (odd h)) $$ HI
    isplitr; · iapply (inv_recv X κ (fw d c) d (!odd h)) $$ HI
    isplitl [Hl]; · iexact Hl
    isplitl [Hf]
    · isplitl [Hf]; · iexact Hf
      iexact Hr3
    isplitl [HO]; · iexact HO
    isplitl [Ht1]; · iexact Ht1
    isplitr; · iexact Hr1
    isplitl [Ht2]; · iexact Ht2
    iexact Hr2
  iintro ⟨Hcs, HO⟩
  iapply Hk
  isplitl [Hat HO Htoks Hcr]
  · isplitr; · iexact HI
    isplitr; · iexact HL
    isplitr; · iexact HB
    isplitl [Hat]; · iexact Hat
    isplitl [HO]; · iexists W; iexact HO
    isplitl [Htoks] <;> iassumption
  · unfold Chan
    isplitl [Hs]; · iexact Hs
    isplitl [Hr]; · iexact Hr
    isplitl [Hc]; · iexact Hc
    isplitl [Hcs]; · iexact Hcs
    isplitl [Hk0] <;> iassumption

/-- The copy of hop `h` has left: its share of the source is back. -/
theorem talk_sent (d : Bool) (h k j : ℕ) (hh : h < hops d) (hi : 2 * h + 2 < NL) (hall : (dues.drop k).all (fun e => decide (2 * h + 2 < ix e)) = true)
    {a b : Memref sig .tc .vmem S256x8192 .f32} {s : DmaSem sig} {ha : a.view.WordExact} {hb : b.view.WordExact}
    {kont : PUnit → Prog (TpuEff nD τ sig (Elt F) Λ₀ .tc) α}
    (hN : b.view.dmaCredit = N) (hs : s = sendSem d (odd h)) :
    iprop(Base X κ c k j ∗ Chan X d c (.fly h))
      ⊢ iprop((iprop(Base X κ c k j ∗ Chan X d c (.sent h)) -∗ WP c (kont ⟨⟩) Q) -∗ WP c (.op (.waitDma2 s a b ha hb) kont) Q) := by
  subst hs
  unfold Base Chan
  iintro ⟨⟨#HI, #HL, #HB, Hat, ⟨%W, HO⟩, Htoks, Hcr⟩, ⟨Hs, Hr, Hc, Hcs, Hk0, Hx⟩⟩ Hk
  ihave Hs' := (snd_step (F := F) d c h) $$ Hs
  unfold at'
  icases Hs' with ⟨⟨Hp, -⟩, Hs⟩
  iapply (Rounds.wp_wait_rest_token 𝒱₀ ER (rd X) (c : Thread nD τ) none (κ := κ (sendCell c d (odd h)))
      (wpE_waitDma2_eq (src := a) (dst := b) 𝒱₀ (c : Thread nD τ) none Set.univ) (Set.mem_univ _) (2 * h + 2) (O := owed c k) (W := W) (R := h / 2) (m := 0) (T := ∅)
      (by rw [expect_send X c d h hh, hN, Nat.zero_add])) $$ [Hcs HO Hp]
  · isplitr; · iapply (inv_send X κ c d (odd h)) $$ HI
    isplitl [Hcs]; · rw [hN]; iexact Hcs
    isplitl [HO]; · iexact HO
    isplitr; · iapply (mayWait c (.dma (sendSem d (odd h))) (2 * h + 2) k hi hall) $$ HL
    iexact Hp
  rw [rest_send X c d h hh]
  iintro ⟨HO, Hp, Hp', Hl⟩
  iapply Hk
  isplitl [Hat HO Htoks Hcr]
  · isplitr; · iexact HI
    isplitr; · iexact HL
    isplitr; · iexact HB
    isplitl [Hat]; · iexact Hat
    isplitl [HO]; · iexists _; iexact HO
    isplitl [Htoks] <;> iassumption
  · isplitl [Hs Hp Hp']
    · iapply Hs
      isplitl [Hp] <;> iassumption
    isplitl [Hr]; · iexact Hr
    isplitl [Hc]; · iexact Hc
    isplitl [Hl]; · iexact Hl
    isplitl [Hk0] <;> iassumption

/-- The neighbour's copy of hop `h` has arrived. -/
theorem talk_recv (d : Bool) (h k j : ℕ) (hj : dues[j]? = some (.put, d, h)) (hj0 : j ≠ 0) (hh : h < hops d) (hi : 2 * h + 2 < NL)
    (hall : (dues.drop k).all (fun e => decide (2 * h + 2 < ix e)) = true)
    {a b : Memref sig .tc .vmem S256x8192 .f32} {s : DmaSem sig} {ha : a.view.WordExact} {hb : b.view.WordExact}
    {kont : PUnit → Prog (TpuEff nD τ sig (Elt F) Λ₀ .tc) α}
    (hN : b.view.dmaCredit = N) (hs : s = recvSem d (!odd h)) :
    iprop(Base X κ c k j ∗ Chan X d c (.sent h))
      ⊢ iprop((iprop(Base X κ c k (j + 1) ∗ Chan X d c (.done h)) -∗ WP c (kont ⟨⟩) Q) -∗ WP c (.op (.waitDma2 s a b ha hb) kont) Q) := by
  subst hs
  unfold Base Chan
  rw [creds_step c hj, if_neg hj0, if_neg (Nat.succ_ne_zero j), show semOf (.put, d, h) = .dma (recvSem d (!odd h)) from rfl,
    show ix (.put, d, h) = 2 * h + 2 from rfl, show units (.put, d, h) = N from rfl]
  iintro ⟨⟨#HI, #HL, #HB, Hat, ⟨%W, HO⟩, Htoks, ⟨Hcs, Hcr⟩⟩, ⟨Hs, Hr, Hc, Hl, Hk0, Hx⟩⟩ Hk
  ihave Hr' := (rcv_step (F := F) d c h) $$ Hr
  unfold at'
  icases Hr' with ⟨⟨Hp, -⟩, Hr⟩
  iapply (Rounds.wp_wait_rest_token 𝒱₀ ER (rd X) (c : Thread nD τ) none (κ := κ (recvCell c d (!odd h)))
      (wpE_waitDma2_eq (src := a) (dst := b) 𝒱₀ (c : Thread nD τ) none Set.univ) (Set.mem_univ _) (2 * h + 2) (O := owed c k) (W := W) (R := h / 2) (m := 0) (T := ∅)
      (by rw [expect_recv X c d h hh, hN, Nat.zero_add])) $$ [Hcs HO Hp]
  · isplitr; · iapply (inv_recv X κ c d (!odd h)) $$ HI
    isplitl [Hcs]; · rw [hN]; iexact Hcs
    isplitl [HO]; · iexact HO
    isplitr; · iapply (mayWait c (.dma (recvSem d (!odd h))) (2 * h + 2) k hi hall) $$ HL
    iexact Hp
  rw [rest_recv X c d h hh]; unfold recvPay
  iintro ⟨HO, Hp, Hp', Hm, Hq⟩
  iapply Hk
  isplitl [Hat HO Htoks Hcr]
  · isplitr; · iexact HI
    isplitr; · iexact HL
    isplitr; · iexact HB
    isplitl [Hat]; · iexact Hat
    isplitl [HO]; · iexists _; iexact HO
    isplitl [Htoks] <;> iassumption
  · isplitl [Hs]; · iexact Hs
    isplitl [Hr Hp Hp']
    · iapply Hr
      isplitl [Hp] <;> iassumption
    isplitl [Hc]; · iexact Hc
    isplitl [Hl]; · iexact Hl
    isplitl [Hk0]; · iexact Hk0
    isplitl [Hx]; · iexact Hx
    isplitl [Hm] <;> iassumption

/-- The slot that hop `h` was sent from is whole and free, and the first hop's share of the staged rows is back. -/
theorem freed (d : Bool) (h : ℕ) :
    iprop(lent X d c h ∗ kept X d c h ∗ xback X d c h) ⊢ (iprop(free d (odd h) c ∗ mp xM c (lentQ d 0) (X c)) : sProp 𝕄) := by
  cases h with
  | zero =>
    unfold lent kept xback
    iintro ⟨Hl, Hk, -⟩
    isplitl [Hk]
    · iexact Hk
    · iexact Hl
  | succ h =>
    unfold lent kept xback free
    iintro ⟨Hl, Hk, Hx⟩
    isplitl [Hl Hk]
    · iexists (X (src d c (h + 1)))
      iapply (mp_share (F := F) (slotM d (odd (h + 1))) c fullShare (X (src d c (h + 1)))).2
      isplitl [Hl]
      · iexact Hl
      · iexact Hk
    · iexact Hx

/-- The freed slot of hop `h` goes back to the neighbour that sends into it. -/
theorem talk_ack (d : Bool) (h k j : ℕ) (hk : dues[k]? = some (.ack, d, h)) (hh : h + 1 < hops d) {n : Dev nD} {s : Sem sig} {z : ℤ}
    {kont : PUnit → Prog (TpuEff nD τ sig (Elt F) Λ₀ .tc) α} (hn : n = bw d c) (hs : s = credSem d) (hz : z = ((1 : ℕ) : ℤ)) :
    iprop(Base X κ c k j ∗ Chan X d c (.done h))
      ⊢ iprop((iprop(Base X κ c (k + 1) j ∗ Chan X d c (.idle (h + 1))) -∗ WP c (kont ⟨⟩) Q) -∗ WP c (.op (.semSignal (Dev.tc n) s z) kont) Q) := by
  subst hn hs hz
  unfold Base
  conv => lhs; unfold Chan
  rw [toks_step c hk, show tokL c (.ack, d, h) = [(credCell (bw d c) d, h, false)] from rfl, bigSepL_singleton]
  iintro ⟨⟨#HI, #HL, #HB, Hat, ⟨%W, HO⟩, ⟨Htok, Htoks⟩, Hcr⟩, ⟨Hs, Hr, Hc, Hl, Hk0, Hx, Hm, #Hq⟩⟩ Hk
  ihave Hf := (freed (F := F) X c d h) $$ [Hl Hk0 Hx]
  · isplitl [Hl]; · iexact Hl
    isplitl [Hk0] <;> iassumption
  icases Hf with ⟨Hf, Hx⟩
  ihave Hrc := (rcv_reached (F := F) d c h) $$ Hr
  icases Hrc with ⟨Hr1, Hr⟩
  iapply (Rounds.wp_signal 𝒱₀ ER (rd X) (c : Thread nD τ) none (dst := (bw d c : Thread nD τ)) (sem := credSem d) (κ := κ (credCell (bw d c) d))
      (r := h) (d := false) (by rw [duties_cred X (bw d c) d h hh]; exact Finset.mem_singleton_self _) (amount_cred X (bw d c) d h false) (2 * h + 3)
      (O₀ := owed c k) (owed c (k + 1)) (owed_step c hk)) $$ [HO Htok Hf Hr1]
  · isplitr; · iapply (inv_cred X κ (bw d c) d) $$ HI
    isplitl [HO]; · iexact HO
    isplitl [Htok]; · iexact Htok
    isplitl [Hf Hr1]
    · rw [payload_cred]; unfold credPay; rw [fw_bw]
      isplitl [Hf] <;> iassumption
    iexact Hq
  iintro HO
  iapply Hk
  isplitl [Hat HO Htoks Hcr]
  · isplitr; · iexact HI
    isplitr; · iexact HL
    isplitr; · iexact HB
    isplitl [Hat]; · iexact Hat
    isplitl [HO]; · iexists W; iexact HO
    isplitl [Htoks] <;> iassumption
  · unfold Chan
    ihave Hm' := (mp_share (F := F) (slotM d (!odd h)) c fullShare (X (src d c (h + 1)))).1 $$ Hm
    icases Hm' with ⟨Hm1, Hm2⟩
    unfold lent kept xback srcM lentQ
    rw [← odd_succ]
    isplitl [Hs]; · iexact Hs
    isplitl [Hr]; · iexact Hr
    isplitl [Hc]; · rw [Nat.add_sub_cancel]; iexact Hc
    isplitl [Hm1]; · iexact Hm1
    isplitl [Hm2]; · iexact Hm2
    iexact Hx

/-- The neighbour's slot for hop `h + 1` has come free. -/
theorem talk_credit (d : Bool) (h k j : ℕ) (hj : dues[j]? = some (.ack, d, h)) (hj0 : j ≠ 0) (hh : h + 1 < hops d) (hi : 2 * h + 3 < NL)
    (hall : (dues.drop k).all (fun e => decide (2 * h + 3 < ix e)) = true) {s : Sem sig} {z : ℤ}
    {kont : PUnit → Prog (TpuEff nD τ sig (Elt F) Λ₀ .tc) α} (hs : s = credSem d) (hz : z = ((1 : ℕ) : ℤ)) :
    iprop(Base X κ c k j ∗ Chan X d c (.idle (h + 1)))
      ⊢ iprop((iprop(Base X κ c k (j + 1) ∗ Chan X d c (.ready (h + 1))) -∗ WP c (kont ⟨⟩) Q) -∗ WP c (.op (.semWait s z) kont) Q) := by
  subst hs hz
  unfold Base Chan
  rw [creds_step c hj, if_neg hj0, if_neg (Nat.succ_ne_zero j), show semOf (.ack, d, h) = .reg (credSem d) from rfl,
    show ix (.ack, d, h) = 2 * h + 3 from rfl, show units (.ack, d, h) = 1 from rfl]
  iintro ⟨⟨#HI, #HL, #HB, Hat, ⟨%W, HO⟩, Htoks, ⟨Hcs, Hcr⟩⟩, ⟨Hs, Hr, Hc, Hl, Hk0, Hx⟩⟩ Hk
  unfold at'
  icases Hc with ⟨Hp, -⟩
  iapply (Rounds.wp_wait_rest_token 𝒱₀ ER (rd X) (c : Thread nD τ) none (κ := κ (credCell c d))
      (wpE_semWait_eq 𝒱₀ (c : Thread nD τ) none Set.univ) (Set.mem_univ _) (2 * h + 3) (O := owed c k) (W := W) (R := h) (m := 0) (T := ∅)
      (by rw [expect_cred X c d h hh])) $$ [Hcs HO Hp]
  · isplitr; · iapply (inv_cred X κ c d) $$ HI
    isplitl [Hcs]; · iexact Hcs
    isplitl [HO]; · iexact HO
    isplitr; · iapply (mayWait c (.reg (credSem d)) (2 * h + 3) k hi hall) $$ HL
    iexact Hp
  rw [rest_cred X c d h hh]; unfold credPay
  iintro ⟨HO, Hp, Hp', Hf, Hq⟩
  iapply Hk
  isplitl [Hat HO Htoks Hcr]
  · isplitr; · iexact HI
    isplitr; · iexact HL
    isplitr; · iexact HB
    isplitl [Hat]; · iexact Hat
    isplitl [HO]; · iexists _; iexact HO
    isplitl [Htoks] <;> iassumption
  · have hb : (!odd (h + 1)) = odd h := by rw [odd_succ, Bool.not_not]
    isplitl [Hs]; · iexact Hs
    isplitl [Hr]; · iexact Hr
    isplitl [Hp Hp']; · isplitl [Hp] <;> iassumption
    isplitl [Hl]; · iexact Hl
    isplitl [Hk0]; · iexact Hk0
    isplitl [Hx]; · iexact Hx
    rw [hb]
    isplitl [Hf] <;> iassumption

end Cert.KernelIdeal

end
-- ==== Proof.Enter.lean ====
/-
  The kernel's first state, made of what the region hands it; and what its last state gives back.
-/
module

public import proofs.«01_k».proof.Proof.Open
public import proofs.«01_k».proof.Proof.Rules

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Gen

variable {F : FTy → Type} [FloatOps F]

local notation "𝕄" => MT nD τ sig ℕ (Elt F) ℕ UU ℕ

variable (X : Dev nD → S256x8192.Idx → Elt F .f32) (w : S8192x128.Idx → Elt F .f32) (κ : GSem nD τ sig → ℕ) (c : Dev nD)

/-- What the kernel starts with beside its buffers and its dues. -/
def Ghost : sProp 𝕄 :=
  iprop(invs X κ ∗ levels ∗ (reached ER (barCell (bw false c)) 0 ∗ reached ER (barCell (bw true c)) 0)
    ∗ atPos ER (barCell c) 0 ∅ 0 ∗ toks c 0 ∗ creds c 0 ∗ pos0 c false ∗ pos0 c true)

/-- The staged operands. -/
def Staged : sProp 𝕄 := iprop(mp xM c fullShare (X c) ∗ mp wM c fullShare w ∗ mp pM c fullShare (fun i => (words c i : Elt F .i32)))

theorem enter : iprop(Ghost X κ c ∗ (scratch false c ∗ scratch true c) ∗ Staged X w c
      ∗ (∃ f : oM.view.ty.Contents (Elt F), oM.view.loc (c : Thread nD τ) ↦[Finset.univ]{fullShare} f)
      ∗ ∃ W, owes (c : Thread nD τ) (owed c 0) W)
    ⊢ (St X w κ c 0 0 .pre .pre own0 : sProp 𝕄) := by
  unfold Ghost Staged St Base Chan Ops Out pos0
  iintro ⟨⟨HI, HL, HR, Hat, Ht, Hc, ⟨Hs, Hr, Ha⟩, ⟨Hs', Hr', Ha'⟩⟩, ⟨Hf, Hf'⟩, ⟨Hx, Hw, Hp⟩, ⟨%f, Ho⟩, HO⟩
  ihave H := (scratch_split false c) $$ Hf
  icases H with ⟨F0, F1⟩
  ihave H := (scratch_split true c) $$ Hf'
  icases H with ⟨F0', F1'⟩
  ihave H := (mp_share xM c fullShare (X c)).1 $$ Hx
  icases H with ⟨Hx, Hxr⟩
  ihave H := (mp_share xM c fullShare.left (X c)).1 $$ Hx
  icases H with ⟨Hx, Hx'⟩
  isplitl [HI HL HR Hat Ht Hc HO]
  · isplitl [HI]; · iexact HI
    isplitl [HL]; · iexact HL
    isplitl [HR]; · iexact HR
    isplitl [Hat]; · iexact Hat
    isplitl [HO]; · iexact HO
    isplitl [Ht] <;> iassumption
  isplitl [Hs Hr Ha Hx F0 F1]
  · isplitl [Hs]; · iexact Hs
    isplitl [Hr]; · iexact Hr
    isplitl [Ha]; · iexact Ha
    isplitl [Hx]; · iapply (show mp xM c fullShare.left.left (X c) ⊢ (lent X false c 0 : sProp 𝕄) from .rfl) $$ Hx
    isplitl [F0]; · iapply (show free false false c ⊢ (kept X false c 0 : sProp 𝕄) from .rfl) $$ F0
    iexact F1
  isplitl [Hs' Hr' Ha' Hx' F0' F1']
  · isplitl [Hs']; · iexact Hs'
    isplitl [Hr']; · iexact Hr'
    isplitl [Ha']; · iexact Ha'
    isplitl [Hx']; · iapply (show mp xM c fullShare.left.right (X c) ⊢ (lent X true c 0 : sProp 𝕄) from .rfl) $$ Hx'
    isplitl [F0']; · iapply (show free true false c ⊢ (kept X true c 0 : sProp 𝕄) from .rfl) $$ F0'
    iexact F1'
  isplitl [Hxr Hw Hp]
  · isplitl [Hxr]; · iexact Hxr
    isplitl [Hw] <;> iassumption
  iexists f
  isplitl [Ho]; · iexact Ho
  ipureintro
  exact fun o h => h.elim

/-- One direction's ring at its end: its cells closed, its scratch buffer whole, its share of the staged rows back. -/
theorem leave_dir (d : Bool) (h : ℕ) (hh : h + 1 = hops d) :
    iprop(invs X κ ∗ Chan X d c (.done h)) ⊢ iprop(|={Set.univ}=> (five c (fun g => semVal g 0) d ∗ scratch d c ∗ mp xM c (lentQ d 0) (X c))) := by
  conv => lhs; unfold Chan
  show iprop(invs X κ ∗ snd d c (h + 1) ∗ rcv d c (h + 1) ∗ at' (credCell c d) h ∗ lent X d c h ∗ kept X d c h ∗ xback X d c h
      ∗ mp (slotM d (!odd h)) c fullShare (X (src d c (h + 1))) ∗ reached ER (credCell (bw d c) d) h) ⊢ _
  have e : h = hops d - 1 := by omega
  have hc := close_dir X κ c d
  rw [← hh, Nat.add_sub_cancel] at hc
  iintro ⟨#HI, Hs, Hr, Ha, Hl, Hk, Hx, Hm, -⟩
  imod hc $$ [Hs Hr Ha] with H5
  · isplitr; · iexact HI
    isplitl [Hs]; · iexact Hs
    isplitl [Hr] <;> iassumption
  ihave H := (freed X c d h) $$ [Hl Hk Hx]
  · isplitl [Hl]; · iexact Hl
    isplitl [Hk] <;> iassumption
  icases H with ⟨Hf, Hx⟩
  imodintro
  isplitl [H5]; · iexact H5
  isplitr [Hx]; swap; · iexact Hx
  iapply (scratch_join d c)
  ihave Hm := (show mp (slotM d (!odd h)) c fullShare (X (src d c (h + 1))) ⊢ (free d (!odd h) c : sProp 𝕄) from by
    unfold free; iintro H; iexists _; iexact H) $$ Hm
  iapply (show iprop(free d (odd h) c ∗ free d (!odd h) c) ⊢ (iprop(free d false c ∗ free d true c) : sProp 𝕄) from by
    cases odd h
    · exact .rfl
    · exact sep_comm.1)
  isplitl [Hf] <;> iassumption

theorem owed_end : owed c 62 = 0 := by
  unfold owed
  rw [show dues.drop 62 = [] from by decide +kernel]
  rfl

theorem leave : St X w κ c 62 62 (.done 15) (.done 14) (cov c 16 15)
    ⊢ iprop(|={Set.univ}=> ((scratch false c ∗ scratch true c) ∗ Pipeline.ownSems0 osem c ∗ fam.barPos ER (rd X) c 1 ∅ ∗ Staged X w c
      ∗ (oM.view.loc (c : Thread nD τ) ↦[Finset.univ]{fullShare} outv X w) ∗ ∃ W, owes (c : Thread nD τ) (0 : CellTallies nD τ sig ℕ) W)) := by
  conv => lhs; unfold St Base Ops Out
  rw [owed_end]
  iintro ⟨⟨#HI, -, -, Hat, HO, -, -⟩, HR, HL, ⟨Hxr, Hw, Hp⟩, %f, Ho, %hf⟩
  imod (leave_dir X κ c false 15 rfl) $$ [HR] with ⟨H5, Hf, Hx⟩
  · isplitr; · iexact HI
    iexact HR
  imod (leave_dir X κ c true 14 rfl) $$ [HL] with ⟨H5', Hf', Hx'⟩
  · isplitr; · iexact HI
    iexact HL
  imodintro
  isplitl [Hf Hf']
  · isplitl [Hf] <;> iassumption
  isplitl [H5 H5']
  · iapply (ownSems_eq c).2
    isplitl [H5] <;> iassumption
  isplitl [Hat]
  · unfold Fam.barPos
    isplitr
    · iexists κ
      iapply (Entails.of_eq (invs_eq X κ)) $$ HI
    isplitl [Hat]; · iexact Hat
    rw [BI.bigSep_empty]
    iempintro
  isplitl [Hx Hx' Hxr Hw Hp]
  · unfold Staged
    isplitl [Hx Hx' Hxr]
    · iapply (mp_share xM c fullShare (X c)).2
      isplitr [Hxr]; swap; · iexact Hxr
      iapply (mp_share xM c fullShare.left (X c)).2
      isplitl [Hx]; · iexact Hx
      iexact Hx'
    isplitl [Hw] <;> iassumption
  isplitl [Ho]
  · rw [← hf.eq X w (cov_all c)]
    iexact Ho
  iexact HO

end Cert.KernelIdeal

end
-- ==== Proof.Step.lean ====
/-
  The same rules on the whole state, and the rules for the operations on a device's own memory.
-/
module

public import proofs.«01_k».proof.Proof.Rules
public import Idealize.ShloMosaic.Lib.Pipeline.Value

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig ℕ (Elt F) ℕ UU ℕ

/-! ## Rules under the rest of the state -/

theorem lift_R {B B' C C' D Z P R : sProp (MT nD τ sig ℕ (Elt F) ℕ UU ℕ)} (rule : iprop(B ∗ C) ⊢ iprop((iprop(B' ∗ C') -∗ P) -∗ R))
    (h : iprop(B' ∗ C' ∗ D ∗ Z) ⊢ P) : iprop(B ∗ C ∗ D ∗ Z) ⊢ R := by
  iintro ⟨HB, HC, HD, HZ⟩
  iapply rule $$ [HB HC]
  · isplitl [HB] <;> iassumption
  iintro ⟨HB, HC⟩
  iapply h
  isplitl [HB]; · iexact HB
  isplitl [HC]; · iexact HC
  isplitl [HD] <;> iassumption
theorem lift_L {B B' C C' D Z P R : sProp (MT nD τ sig ℕ (Elt F) ℕ UU ℕ)} (rule : iprop(B ∗ C) ⊢ iprop((iprop(B' ∗ C') -∗ P) -∗ R))
    (h : iprop(B' ∗ D ∗ C' ∗ Z) ⊢ P) : iprop(B ∗ D ∗ C ∗ Z) ⊢ R := by
  iintro ⟨HB, HD, HC, HZ⟩
  iapply rule $$ [HB HC]
  · isplitl [HB] <;> iassumption
  iintro ⟨HB, HC⟩
  iapply h
  isplitl [HB]; · iexact HB
  isplitl [HD]; · iexact HD
  isplitl [HC] <;> iassumption
theorem lift_B {B B' C C' D D' Z P R : sProp (MT nD τ sig ℕ (Elt F) ℕ UU ℕ)}
    (rule : iprop(B ∗ C ∗ D) ⊢ iprop((iprop(B' ∗ C' ∗ D') -∗ P) -∗ R)) (h : iprop(B' ∗ C' ∗ D' ∗ Z) ⊢ P) : iprop(B ∗ C ∗ D ∗ Z) ⊢ R := by
  iintro ⟨HB, HC, HD, HZ⟩
  iapply rule $$ [HB HC HD]
  · isplitl [HB]; · iexact HB
    isplitl [HC] <;> iassumption
  iintro ⟨HB, HC, HD⟩
  iapply h
  isplitl [HB]; · iexact HB
  isplitl [HC]; · iexact HC
  isplitl [HD] <;> iassumption

variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}
variable {k j : ℕ} {sR sL : Stg} {S : Dev nD → Prop}

/-! ## What a slot reads -/

/-- A block of rows as a slot's slice reads it. -/
def slotRead (x : S256x8192.Idx → Elt F .f32) : Vec F S1x256x8192 .f32 :=
  shapeCast S1x256x8192 x (show S256x8192.ShapeCasts S1x256x8192 from by decide)

theorem gemm_slot (x : S256x8192.Idx → Elt F .f32) : k0_pay3 (slotRead x) w = gemm x w := by
  unfold k0_pay3 slotRead gemm k0_pay2
  rw [shapeCast_shapeCast]
  exact congrArg (fun z => matmul dot_S256x8192_S8192x128_S256x128_1_0_0_1_n_n none z (shapeCast S8192x128 w shapeCasts_S8192x128_S8192x128)
    (constant S256x128 .f32 0x00000000#32)) (shapeCast_self x shapeCasts_S256x8192_S256x8192).symm

theorem load_squeeze (M : Memref sig .tc .vmem S2x256x8192 .f32) {off : Fin 3 → ℕ} {inb : ∀ a, off a + S1x256x8192.size a ≤ S2x256x8192.size a}
    (hr : ∀ a, (Rect.unit (s := S2x256x8192) off S1x256x8192.size inb).stride a = 1) (hq : S1x256x8192.Squeezes S256x8192)
    (q : PosShare TreeShare) (x : S256x8192.Idx → Elt F .f32) {hl : M.view.LoadsAt (Rect.unit (s := S2x256x8192) off S1x256x8192.size inb).toLoadRect}
    {kont : (S1x256x8192.Idx → Elt F .f32) → Prog (TpuEff nD τ sig (Elt F) Λ₀ .tc) α} :
    mp ((M.slice (Rect.unit (s := S2x256x8192) off S1x256x8192.size inb) hr).squeeze S256x8192 hq) c q x
      ⊢ iprop((mp ((M.slice (Rect.unit (s := S2x256x8192) off S1x256x8192.size inb) hr).squeeze S256x8192 hq) c q x -∗ WP c (kont (slotRead x)) Q)
      -∗ WP c (.op (.load M (Rect.unit (s := S2x256x8192) off S1x256x8192.size inb).toLoadRect hl) kont) Q) := by
  have key : (M.access (Rect.unit (s := S2x256x8192) off S1x256x8192.size inb)).read (Elt F)
      (((M.slice (Rect.unit (s := S2x256x8192) off S1x256x8192.size inb) hr).squeeze S256x8192 hq).view.rep x) = slotRead x := by
    have h := View.read_rep (Val := Elt F) ((M.slice (Rect.unit (s := S2x256x8192) off S1x256x8192.size inb) hr).squeeze S256x8192 hq).view x
    rw [Memref.read_squeeze_slice M _ hr hq Facts₀.shapeCasts_S1x256x8192_S256x8192] at h
    unfold slotRead
    rw [← congrArg (fun z => shapeCast S1x256x8192 z (show S256x8192.ShapeCasts S1x256x8192 from by decide)) h]
    exact (shapeCast_shapeCast _ _ _).symm
  rw [← key]
  unfold mp
  refine wp_load_rect 𝒱₀ (c : Thread nD τ) none Set.univ (m := M) (r := Rect.unit (s := S2x256x8192) off S1x256x8192.size inb) ?_
  exact (Memref.set_view_squeeze _ hq).symm.subset

theorem load_full {sh : Shape} {e : EltTy} (M : Memref sig .tc .vmem sh e) {off : Fin sh.rank → ℕ} {inb : ∀ a, off a + sh.size a ≤ sh.size a}
    (q : PosShare TreeShare) (x : sh.Idx → Elt F e) {hl : M.view.LoadsAt (Rect.unit off sh.size inb).toLoadRect}
    {kont : (sh.Idx → Elt F e) → Prog (TpuEff nD τ sig (Elt F) Λ₀ .tc) α} :
    mp M c q x ⊢ iprop((mp M c q x -∗ WP c (kont x) Q) -∗ WP c (.op (.load M (Rect.unit off sh.size inb).toLoadRect hl) kont) Q) := by
  have key : (M.access (Rect.unit off sh.size inb)).read (Elt F) (M.view.rep x) = x := View.readAt_rep_full (Val := Elt F) M.view x inb
  conv => rhs; arg 1; arg 2; arg 2; arg 1; rw [← key]
  unfold mp
  exact wp_load_rect 𝒱₀ (c : Thread nD τ) none Set.univ (m := M) (r := Rect.unit off sh.size inb) (View.set_slice_subset _ _)

/-! ## A device's own memory -/

theorem use {A Z T P R : sProp (MT nD τ sig ℕ (Elt F) ℕ UU ℕ)} (split : T ⊣⊢ iprop(A ∗ Z)) (rule : A ⊢ iprop((A -∗ P) -∗ R)) (h : T ⊢ P) : T ⊢ R := by
  refine split.1.trans ?_
  iintro ⟨HA, HZ⟩
  iapply rule $$ HA
  iintro HA
  iapply h
  iapply split.2
  isplitl [HA] <;> iassumption

section
variable {B C D x y z O K M : sProp (MT nD τ sig ℕ (Elt F) ℕ UU ℕ)}
theorem split_x : iprop(B ∗ C ∗ D ∗ (x ∗ y ∗ z) ∗ O) ⊣⊢ iprop(x ∗ B ∗ C ∗ D ∗ (y ∗ z) ∗ O) := by
  constructor
  · iintro ⟨HB, HC, HD, ⟨Hx, Hy, Hz⟩, HO⟩
    isplitl [Hx]; · iexact Hx
    isplitl [HB]; · iexact HB
    isplitl [HC]; · iexact HC
    isplitl [HD]; · iexact HD
    isplitl [Hy Hz]; · isplitl [Hy] <;> iassumption
    iexact HO
  · iintro ⟨Hx, HB, HC, HD, ⟨Hy, Hz⟩, HO⟩
    isplitl [HB]; · iexact HB
    isplitl [HC]; · iexact HC
    isplitl [HD]; · iexact HD
    isplitl [Hx Hy Hz]
    · isplitl [Hx]; · iexact Hx
      isplitl [Hy] <;> iassumption
    iexact HO
theorem split_w : iprop(B ∗ C ∗ D ∗ (x ∗ y ∗ z) ∗ O) ⊣⊢ iprop(y ∗ B ∗ C ∗ D ∗ (x ∗ z) ∗ O) := by
  constructor
  · iintro ⟨HB, HC, HD, ⟨Hx, Hy, Hz⟩, HO⟩
    isplitl [Hy]; · iexact Hy
    isplitl [HB]; · iexact HB
    isplitl [HC]; · iexact HC
    isplitl [HD]; · iexact HD
    isplitl [Hx Hz]; · isplitl [Hx] <;> iassumption
    iexact HO
  · iintro ⟨Hy, HB, HC, HD, ⟨Hx, Hz⟩, HO⟩
    isplitl [HB]; · iexact HB
    isplitl [HC]; · iexact HC
    isplitl [HD]; · iexact HD
    isplitl [Hx Hy Hz]
    · isplitl [Hx]; · iexact Hx
      isplitl [Hy] <;> iassumption
    iexact HO
theorem split_p : iprop(B ∗ C ∗ D ∗ (x ∗ y ∗ z) ∗ O) ⊣⊢ iprop(z ∗ B ∗ C ∗ D ∗ (x ∗ y) ∗ O) := by
  constructor
  · iintro ⟨HB, HC, HD, ⟨Hx, Hy, Hz⟩, HO⟩
    isplitl [Hz]; · iexact Hz
    isplitl [HB]; · iexact HB
    isplitl [HC]; · iexact HC
    isplitl [HD]; · iexact HD
    isplitl [Hx Hy]; · isplitl [Hx] <;> iassumption
    iexact HO
  · iintro ⟨Hz, HB, HC, HD, ⟨Hx, Hy⟩, HO⟩
    isplitl [HB]; · iexact HB
    isplitl [HC]; · iexact HC
    isplitl [HD]; · iexact HD
    isplitl [Hx Hy Hz]
    · isplitl [Hx]; · iexact Hx
      isplitl [Hy] <;> iassumption
    iexact HO
theorem split_out : iprop(B ∗ C ∗ D ∗ K ∗ O) ⊣⊢ iprop(O ∗ B ∗ C ∗ D ∗ K) := by
  constructor
  · iintro ⟨HB, HC, HD, HK, HO⟩
    isplitl [HO]; · iexact HO
    isplitl [HB]; · iexact HB
    isplitl [HC]; · iexact HC
    isplitl [HD] <;> iassumption
  · iintro ⟨HO, HB, HC, HD, HK⟩
    isplitl [HB]; · iexact HB
    isplitl [HC]; · iexact HC
    isplitl [HD]; · iexact HD
    isplitl [HK] <;> iassumption
theorem split_R (h : C ⊣⊢ iprop(M ∗ K)) : iprop(B ∗ C ∗ D ∗ O) ⊣⊢ iprop(M ∗ B ∗ K ∗ D ∗ O) := by
  constructor
  · iintro ⟨HB, HC, HD, HO⟩
    ihave HC' := h.1 $$ HC
    icases HC' with ⟨HM, HK⟩
    isplitl [HM]; · iexact HM
    isplitl [HB]; · iexact HB
    isplitl [HK]; · iexact HK
    isplitl [HD] <;> iassumption
  · iintro ⟨HM, HB, HK, HD, HO⟩
    isplitl [HB]; · iexact HB
    isplitl [HM HK]
    · iapply h.2
      isplitl [HM] <;> iassumption
    isplitl [HD] <;> iassumption
theorem split_L (h : D ⊣⊢ iprop(M ∗ K)) : iprop(B ∗ C ∗ D ∗ O) ⊣⊢ iprop(M ∗ B ∗ C ∗ K ∗ O) := by
  constructor
  · iintro ⟨HB, HC, HD, HO⟩
    ihave HD' := h.1 $$ HD
    icases HD' with ⟨HM, HK⟩
    isplitl [HM]; · iexact HM
    isplitl [HB]; · iexact HB
    isplitl [HC]; · iexact HC
    isplitl [HK] <;> iassumption
  · iintro ⟨HM, HB, HC, HK, HO⟩
    isplitl [HB]; · iexact HB
    isplitl [HC]; · iexact HC
    isplitl [HM HK]
    · iapply h.2
      isplitl [HM] <;> iassumption
    iexact HO
end

/-- The rows that came with the previous hop, while hop `h + 1` forwards them. -/
theorem fly_kept (d : Bool) (h : ℕ) : ∃ K : sProp 𝕄, Chan X d c (.fly (h + 1)) ⊣⊢ iprop(mp (slotM d (odd (h + 1))) c fullShare.right (X (src d c (h + 1))) ∗ K) := by
  refine ⟨iprop(snd d c (h + 1) ∗ rcv d c (h + 1) ∗ at' (credCell c d) (h + 1)
    ∗ cred (tallyAt (sendCell c d (odd (h + 1))) (2 * (h + 1) + 2) N) ∗ xback X d c (h + 1)), ?_⟩
  show iprop(snd d c (h + 1) ∗ rcv d c (h + 1) ∗ at' (credCell c d) (h + 1)
    ∗ cred (tallyAt (sendCell c d (odd (h + 1))) (2 * (h + 1) + 2) N) ∗ mp (slotM d (odd (h + 1))) c fullShare.right (X (src d c (h + 1))) ∗ xback X d c (h + 1)) ⊣⊢ _
  constructor
  · iintro ⟨H1, H2, H3, H4, H5, H6⟩
    isplitl [H5]; · iexact H5
    isplitl [H1]; · iexact H1
    isplitl [H2]; · iexact H2
    isplitl [H3]; · iexact H3
    isplitl [H4] <;> iassumption
  · iintro ⟨H5, H1, H2, H3, H4, H6⟩
    isplitl [H1]; · iexact H1
    isplitl [H2]; · iexact H2
    isplitl [H3]; · iexact H3
    isplitl [H4]; · iexact H4
    isplitl [H5] <;> iassumption

/-- The rows that came with hop `h`. -/
theorem done_rows (d : Bool) (h : ℕ) : ∃ K : sProp 𝕄, Chan X d c (.done h) ⊣⊢ iprop(mp (slotM d (!odd h)) c fullShare (X (src d c (h + 1))) ∗ K) := by
  refine ⟨iprop(snd d c (h + 1) ∗ rcv d c (h + 1) ∗ at' (credCell c d) h ∗ lent X d c h ∗ kept X d c h ∗ xback X d c h
    ∗ reached ER (credCell (bw d c) d) h), ?_⟩
  show iprop(snd d c (h + 1) ∗ rcv d c (h + 1) ∗ at' (credCell c d) h ∗ lent X d c h ∗ kept X d c h ∗ xback X d c h
    ∗ mp (slotM d (!odd h)) c fullShare (X (src d c (h + 1))) ∗ reached ER (credCell (bw d c) d) h) ⊣⊢ _
  constructor
  · iintro ⟨H1, H2, H3, H4, H5, H6, H7, H8⟩
    isplitl [H7]; · iexact H7
    isplitl [H1]; · iexact H1
    isplitl [H2]; · iexact H2
    isplitl [H3]; · iexact H3
    isplitl [H4]; · iexact H4
    isplitl [H5]; · iexact H5
    isplitl [H6] <;> iassumption
  · iintro ⟨H7, H1, H2, H3, H4, H5, H6, H8⟩
    isplitl [H1]; · iexact H1
    isplitl [H2]; · iexact H2
    isplitl [H3]; · iexact H3
    isplitl [H4]; · iexact H4
    isplitl [H5]; · iexact H5
    isplitl [H6]; · iexact H6
    isplitl [H7] <;> iassumption

/-- A word of the parameters. -/
theorem st_param (i : ℕ) (hi : i < 33) {inb : ∀ a, (![i] : Fin 1 → ℕ) a + S1.size a ≤ S33.size a}
    {hw : (pM.access (Rect.unit (s := S33) ![i] S1.size inb)).Loads} {x : S1.Idx}
    {kont : Elt F .i32 → Prog (TpuEff nD τ sig (Elt F) Λ₀ .tc) α} (h : St X w κ c k j sR sL S ⊢ WP c (kont (param c i)) Q) :
    St X w κ c k j sR sL S ⊢ WP c (smemLoadElt pM (Rect.unit (s := S33) ![i] S1.size inb) hw x kont) Q := by
  refine use split_p ?_ h
  have key : (pM.access (Rect.unit (s := S33) ![i] S1.size inb)).read (Elt F) (pM.view.rep (fun i => (words c i : Elt F .i32))) x = param c i := by
    refine (congrFun (View.readAt_rep (Val := Elt F) pM.view (Rect.unit (s := S33) ![i] S1.size inb).toLoadRect _) x).trans ?_
    rw [← words_eq c ⟨i, hi⟩]
    refine congrArg (words c) (funext fun a => Fin.ext ?_)
    obtain rfl : a = 0 := Subsingleton.elim _ _
    have hx : (x 0).val < 1 := (x 0).isLt
    show i + 1 * (x 0).val = i
    omega
  rw [← key]
  unfold mp
  exact wp_smemLoadElt 𝒱₀ (c : Thread nD τ) none Set.univ (m := pM) (r := Rect.unit (s := S33) ![i] S1.size inb) (x := x) (View.set_slice_subset _ _)

theorem st_assume {P : Prop} {dec : Decidable P} (hP : P) {kont : PLift P → Prog (TpuEff nD τ sig (Elt F) Λ₀ .tc) α}
    (h : St X w κ c k j sR sL S ⊢ WP c (kont ⟨hP⟩) Q) : St X w κ c k j sR sL S ⊢ WP c (.op (.assume P dec) kont) Q :=
  h.trans (wp_assume 𝒱₀ (c : Thread nD τ) none Set.univ hP)

theorem st_w {inb : ∀ a, (![0, 0] : Fin 2 → ℕ) a + S8192x128.size a ≤ S8192x128.size a}
    {hl : wM.view.LoadsAt (Rect.unit (s := S8192x128) ![0, 0] S8192x128.size inb).toLoadRect}
    {kont : (S8192x128.Idx → Elt F .f32) → Prog (TpuEff nD τ sig (Elt F) Λ₀ .tc) α} (h : St X w κ c k j sR sL S ⊢ WP c (kont w) Q) :
    St X w κ c k j sR sL S ⊢ WP c (.op (.load wM (Rect.unit (s := S8192x128) ![0, 0] S8192x128.size inb).toLoadRect hl) kont) Q :=
  use split_w (load_full c wM fullShare w) h

theorem st_x {inb : ∀ a, (![0, 0] : Fin 2 → ℕ) a + S256x8192.size a ≤ S256x8192.size a}
    {hl : xM.view.LoadsAt (Rect.unit (s := S256x8192) ![0, 0] S256x8192.size inb).toLoadRect}
    {kont : (S256x8192.Idx → Elt F .f32) → Prog (TpuEff nD τ sig (Elt F) Λ₀ .tc) α} (h : St X w κ c k j sR sL S ⊢ WP c (kont (X c)) Q) :
    St X w κ c k j sR sL S ⊢ WP c (.op (.load xM (Rect.unit (s := S256x8192) ![0, 0] S256x8192.size inb).toLoadRect hl) kont) Q :=
  use split_x (load_full c xM fullShare.right (X c)) h

theorem st_out : St X w κ c k j sR sL S ⊣⊢ iprop(Out X w c S ∗ Base X κ c k j ∗ Chan X false c sR ∗ Chan X true c sL ∗ Ops X w c) := split_out

/-- A read of the result whose value is not used. -/
theorem st_peek {r : Rect S8192x128} {hl : oM.view.LoadsAt r.toLoadRect} {kont : (r.shape.Idx → Elt F .f32) → Prog (TpuEff nD τ sig (Elt F) Λ₀ .tc) α}
    (h : ∀ v, St X w κ c k j sR sL S ⊢ WP c (kont v) Q) : St X w κ c k j sR sL S ⊢ WP c (.op (.load oM r.toLoadRect hl) kont) Q := by
  refine (st_out X w κ c).1.trans ?_
  unfold Out
  iintro ⟨⟨%f, Hf, %hf⟩, HZ⟩
  iapply (wp_load_rect 𝒱₀ (c : Thread nD τ) none Set.univ (m := oM) (r := r) (Finset.subset_univ _)) $$ Hf
  iintro Hf
  iapply (h _)
  iapply (st_out X w κ c).2
  isplitl [Hf]
  · unfold Out
    iexists f
    isplitl [Hf]; · iexact Hf
    ipureintro; exact hf
  iexact HZ

/-- The product of origin `o`'s rows goes to their place. -/
theorem st_store (o : Dev nD) {S' : Dev nD → Prop} (hS : ∀ o', S' o' → o' = o ∨ S o') {off : Fin 2 → ℕ} (hoff : off = ![256 * o.val, 0])
    {inb : ∀ a, off a + S256x128.size a ≤ S8192x128.size a} {v : S256x128.Idx → Elt F .f32} (hv : v = gemm (X o) w)
    {hx : (oM.access (Rect.unit (s := S8192x128) off S256x128.size inb)).Stores Finset.univ}
    {hm : (Finset.univ : Finset (Rect.unit (s := S8192x128) off S256x128.size inb).shape.Idx) = Finset.univ ∨ ∀ a, (Rect.unit (s := S8192x128) off S256x128.size inb).stride a = 1}
    {kont : PUnit → Prog (TpuEff nD τ sig (Elt F) Λ₀ .tc) α} (h : St X w κ c k j sR sL S' ⊢ WP c (kont ⟨⟩) Q) :
    St X w κ c k j sR sL S ⊢ WP c (.op (.store oM (Rect.unit (s := S8192x128) off S256x128.size inb) v Finset.univ hx hm) kont) Q := by
  subst hoff
  refine (st_out X w κ c).1.trans ?_
  unfold Out
  iintro ⟨⟨%f, Hf, %hf⟩, HZ⟩
  iapply (wp_store 𝒱₀ (c : Thread nD τ) none Set.univ (m := oM) (r := rows o) (w := v) (Mk := Finset.univ) (Finset.subset_univ _)) $$ Hf
  iintro Hf
  iapply h
  iapply (st_out X w κ c).2
  isplitl [Hf]
  · unfold Out
    iexists _
    isplitl [Hf]; · iexact Hf
    ipureintro; exact Agree.store X w hf o hS v hv
  iexact HZ

/-- The slot that is being sent on, read; and the slot that has come. -/
theorem st_kept_R (h : ℕ) {R : sProp 𝕄} {P : sProp 𝕄}
    (rule : mp (slotM false (odd (h + 1))) c fullShare.right (X (src false c (h + 1))) ⊢ iprop((mp (slotM false (odd (h + 1))) c fullShare.right (X (src false c (h + 1))) -∗ P) -∗ R))
    (hP : St X w κ c k j (.fly (h + 1)) sL S ⊢ P) : St X w κ c k j (.fly (h + 1)) sL S ⊢ R := by
  obtain ⟨K, hK⟩ := fly_kept X c false h
  exact use (split_R hK) rule hP
theorem st_kept_L (h : ℕ) {R : sProp 𝕄} {P : sProp 𝕄}
    (rule : mp (slotM true (odd (h + 1))) c fullShare.right (X (src true c (h + 1))) ⊢ iprop((mp (slotM true (odd (h + 1))) c fullShare.right (X (src true c (h + 1))) -∗ P) -∗ R))
    (hP : St X w κ c k j sR (.fly (h + 1)) S ⊢ P) : St X w κ c k j sR (.fly (h + 1)) S ⊢ R := by
  obtain ⟨K, hK⟩ := fly_kept X c true h
  exact use (split_L hK) rule hP
theorem st_done_R (h : ℕ) {R : sProp 𝕄} {P : sProp 𝕄}
    (rule : mp (slotM false (!odd h)) c fullShare (X (src false c (h + 1))) ⊢ iprop((mp (slotM false (!odd h)) c fullShare (X (src false c (h + 1))) -∗ P) -∗ R))
    (hP : St X w κ c k j (.done h) sL S ⊢ P) : St X w κ c k j (.done h) sL S ⊢ R := by
  obtain ⟨K, hK⟩ := done_rows X c false h
  exact use (split_R hK) rule hP
theorem st_done_L (h : ℕ) {R : sProp 𝕄} {P : sProp 𝕄}
    (rule : mp (slotM true (!odd h)) c fullShare (X (src true c (h + 1))) ⊢ iprop((mp (slotM true (!odd h)) c fullShare (X (src true c (h + 1))) -∗ P) -∗ R))
    (hP : St X w κ c k j sR (.done h) S ⊢ P) : St X w κ c k j sR (.done h) S ⊢ R := by
  obtain ⟨K, hK⟩ := done_rows X c true h
  exact use (split_L hK) rule hP

/-! ## Where a product goes -/

theorem off_R (k : Fin 16) : k0_off2 (param c (2 + k)) = ![256 * (src false c (k + 1)).val, 0] := by rw [param_R]; exact off_word _
theorem off_L (k : Fin 15) : k0_off2 (param c (18 + k)) = ![256 * (src true c (k + 1)).val, 0] := by rw [param_L]; exact off_word _
theorem chk_R (k : Fin 16) : k0_chk3 (param c (2 + k)) := by rw [param_R]; exact chk_word _
theorem chk_L (k : Fin 15) : k0_chk3 (param c (18 + k)) := by rw [param_L]; exact chk_word _

end Cert.KernelIdeal

end
-- ==== Proof.Body1.lean ====
/-
  The kernel's program, stretches 1 to 7: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part1 {kont} (h : ∀ v2, St X w κ c 4 2 (.fly 0) (.fly 0) own0 ⊢ WP c (kont ⟨c, v2, param c 0, chk_left c, param c 1, chk_right c⟩) Q) :
    St X w κ c 0 0 .pre .pre own0 ⊢ WP c (k0_part1 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7  >>= kont) Q := by
  rw [k0_part1_eq_skeleton]; unfold k0_part1_skel; simp only [semSignalWord, semWaitWord, smemLoad, Prog.lift, Prog.bind_op, Prog.bind_ret, Prog.pure_eq_ret, Prog.bind_assoc, wp_deviceId, smemLoadElt_bind]
  refine st_param X w κ c 0 (by decide) ?_
  refine st_assume X w κ c (chk_left c) ?_
  refine st_param X w κ c 1 (by decide) ?_
  refine st_assume X w κ c (chk_right c) ?_
  refine lift_R (talk_barrier X κ c false 0 0 rfl (Fin.ext (dev_left c)) rfl rfl) ?_
  refine lift_L (talk_barrier X κ c true 1 0 rfl (Fin.ext (dev_right c)) rfl rfl) ?_
  refine lift_B (talk_enter X κ c 2 rfl rfl rfl) ?_
  refine lift_R (talk_send X κ c false 0 2 2 rfl (by decide) (Fin.ext (dev_right c)) rfl rfl rfl rfl) ?_
  refine lift_L (talk_send X κ c true 0 3 2 rfl (by decide) (Fin.ext (dev_left c)) rfl rfl rfl rfl) ?_
  exact h _

theorem part2 {kont} (h : St X w κ c 4 3 (.done 0) (.sent 0) (cov c 0 0) ⊢ WP c (kont ⟨⟩) Q) (v2 : BitVec 32):
    St X w κ c 4 2 (.fly 0) (.fly 0) own0 ⊢ WP c (k0_part2 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 (param c 0) (param c 1) >>= kont) Q := by
  rw [k0_part2_eq_skeleton]; unfold k0_part2_skel; simp only [semSignalWord, semWaitWord, smemLoad, Prog.lift, Prog.bind_op, Prog.bind_ret, Prog.pure_eq_ret, Prog.bind_assoc, wp_deviceId, smemLoadElt_bind]
  refine st_x X w κ c ?_
  refine st_w X w κ c ?_
  refine st_peek X w κ c fun _ => ?_
  refine st_store X w κ c c (cov_own c) (k0_off1_eq c) rfl ?_
  refine lift_R (talk_sent X κ c false 0 4 2 (by decide) (by decide) rfl rfl rfl) ?_
  refine lift_R (talk_recv X κ c false 0 4 2 rfl (by decide) (by decide) (by decide) rfl rfl rfl) ?_
  refine lift_L (talk_sent X κ c true 0 4 3 (by decide) (by decide) rfl rfl rfl) ?_
  exact h

theorem part3 {kont} (h : St X w κ c 7 6 (.fly 1) (.ready 1) (cov c 0 0) ⊢ WP c (kont ⟨⟩) Q) :
    St X w κ c 4 3 (.done 0) (.sent 0) (cov c 0 0) ⊢ WP c (k0_part3 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part3_eq_skeleton]; unfold k0_part3_skel; simp only [semSignalWord, semWaitWord, smemLoad, Prog.lift, Prog.bind_op, Prog.bind_ret, Prog.pure_eq_ret, Prog.bind_assoc, wp_deviceId, smemLoadElt_bind]
  refine lift_L (talk_recv X κ c true 0 4 3 rfl (by decide) (by decide) (by decide) rfl rfl rfl) ?_
  refine lift_R (talk_ack X κ c false 0 4 4 rfl (by decide) (Fin.ext (dev_left c)) rfl rfl) ?_
  refine lift_L (talk_ack X κ c true 0 5 4 rfl (by decide) (Fin.ext (dev_right c)) rfl rfl) ?_
  refine lift_R (talk_credit X κ c false 0 6 4 rfl (by decide) (by decide) (by decide) rfl rfl rfl) ?_
  refine lift_L (talk_credit X κ c true 0 6 5 rfl (by decide) (by decide) (by decide) rfl rfl rfl) ?_
  refine lift_R (talk_send X κ c false 1 6 6 rfl (by decide) (Fin.ext (dev_right c)) rfl rfl rfl rfl) ?_
  exact h

theorem part4 {kont} (h : St X w κ c 8 6 (.fly 1) (.fly 1) (cov c 1 1) ⊢ WP c (kont ⟨⟩) Q) :
    St X w κ c 7 6 (.fly 1) (.ready 1) (cov c 0 0) ⊢ WP c (k0_part4 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) >>= kont) Q := by
  rw [k0_part4_eq_skeleton]; unfold k0_part4_skel; simp only [semSignalWord, semWaitWord, smemLoad, Prog.lift, Prog.bind_op, Prog.bind_ret, Prog.pure_eq_ret, Prog.bind_assoc, wp_deviceId, smemLoadElt_bind]
  refine lift_L (talk_send X κ c true 1 7 6 rfl (by decide) (Fin.ext (dev_left c)) rfl rfl rfl rfl) ?_
  refine st_param X w κ c 2 (by decide) ?_
  refine st_assume X w κ c (chk_R c 0) ?_
  refine st_kept_R X w κ c 0 (load_squeeze c _ (fun _ => rfl) squeezes_S1x256x8192_S256x8192 _ _) ?_
  refine st_w X w κ c ?_
  refine st_peek X w κ c fun _ => ?_
  refine st_store X w κ c (src false c 1) (cov_R c 0 0) (off_R c 0) (gemm_slot w _) ?_
  refine st_param X w κ c 18 (by decide) ?_
  refine st_assume X w κ c (chk_L c 0) ?_
  refine st_kept_L X w κ c 0 (load_squeeze c _ (fun _ => rfl) squeezes_S1x256x8192_S256x8192 _ _) ?_
  refine st_w X w κ c ?_
  refine st_peek X w κ c fun _ => ?_
  refine st_store X w κ c (src true c 1) (cov_L c 1 0) (off_L c 0) (gemm_slot w _) ?_
  exact h

theorem part5 {kont} (h : ∀ a, St X w κ c 8 8 (.done 1) (.done 1) (cov c 1 1) ⊢ WP c (kont ⟨a, 0#32⟩) Q) :
    St X w κ c 8 6 (.fly 1) (.fly 1) (cov c 1 1) ⊢ WP c (k0_part5 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (param c 1) >>= kont) Q := by
  rw [k0_part5_eq_skeleton]; unfold k0_part5_skel; simp only [semSignalWord, semWaitWord, smemLoad, Prog.lift, Prog.bind_op, Prog.bind_ret, Prog.pure_eq_ret, Prog.bind_assoc, wp_deviceId, smemLoadElt_bind]
  refine lift_R (talk_sent X κ c false 1 8 6 (by decide) (by decide) rfl rfl rfl) ?_
  refine lift_R (talk_recv X κ c false 1 8 6 rfl (by decide) (by decide) (by decide) rfl rfl rfl) ?_
  refine lift_L (talk_sent X κ c true 1 8 7 (by decide) (by decide) rfl rfl rfl) ?_
  refine lift_L (talk_recv X κ c true 1 8 7 rfl (by decide) (by decide) (by decide) rfl rfl rfl) ?_
  exact h _

theorem part6 {kont} (h : St X w κ c 12 10 (.fly 2) (.fly 2) (cov c 1 1) ⊢ WP c (kont ⟨param c 3, (chk_R c 1)⟩) Q) (v124 : BitVec 32) (c0_i32_136 : BitVec 32):
    St X w κ c 8 8 (.done 1) (.done 1) (cov c 1 1) ⊢ WP c (k0_part6 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) v124 c0_i32_136 >>= kont) Q := by
  rw [k0_part6_eq_skeleton]; unfold k0_part6_skel; simp only [semSignalWord, semWaitWord, smemLoad, Prog.lift, Prog.bind_op, Prog.bind_ret, Prog.pure_eq_ret, Prog.bind_assoc, wp_deviceId, smemLoadElt_bind]
  refine lift_R (talk_ack X κ c false 1 8 8 rfl (by decide) (Fin.ext (dev_left c)) rfl rfl) ?_
  refine lift_L (talk_ack X κ c true 1 9 8 rfl (by decide) (Fin.ext (dev_right c)) rfl rfl) ?_
  refine lift_R (talk_credit X κ c false 1 10 8 rfl (by decide) (by decide) (by decide) rfl rfl rfl) ?_
  refine lift_L (talk_credit X κ c true 1 10 9 rfl (by decide) (by decide) (by decide) rfl rfl rfl) ?_
  refine lift_R (talk_send X κ c false 2 10 10 rfl (by decide) (Fin.ext (dev_right c)) rfl rfl rfl rfl) ?_
  refine lift_L (talk_send X κ c true 2 11 10 rfl (by decide) (Fin.ext (dev_left c)) rfl rfl rfl rfl) ?_
  refine st_param X w κ c 3 (by decide) ?_
  refine st_assume X w κ c (chk_R c 1) ?_
  exact h

theorem part7 {kont} (h : St X w κ c 12 10 (.sent 2) (.fly 2) (cov c 2 2) ⊢ WP c (kont ⟨⟩) Q) :
    St X w κ c 12 10 (.fly 2) (.fly 2) (cov c 1 1) ⊢ WP c (k0_part7 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 3) (chk_R c 1) >>= kont) Q := by
  rw [k0_part7_eq_skeleton]; unfold k0_part7_skel; simp only [semSignalWord, semWaitWord, smemLoad, Prog.lift, Prog.bind_op, Prog.bind_ret, Prog.pure_eq_ret, Prog.bind_assoc, wp_deviceId, smemLoadElt_bind]
  refine st_kept_R X w κ c 1 (load_squeeze c _ (fun _ => rfl) squeezes_S1x256x8192_S256x8192 _ _) ?_
  refine st_w X w κ c ?_
  refine st_peek X w κ c fun _ => ?_
  refine st_store X w κ c (src false c 2) (cov_R c 1 1) (off_R c 1) (gemm_slot w _) ?_
  refine st_param X w κ c 19 (by decide) ?_
  refine st_assume X w κ c (chk_L c 1) ?_
  refine st_kept_L X w κ c 1 (load_squeeze c _ (fun _ => rfl) squeezes_S1x256x8192_S256x8192 _ _) ?_
  refine st_w X w κ c ?_
  refine st_peek X w κ c fun _ => ?_
  refine st_store X w κ c (src true c 2) (cov_L c 2 1) (off_L c 1) (gemm_slot w _) ?_
  refine lift_R (talk_sent X κ c false 2 12 10 (by decide) (by decide) rfl rfl rfl) ?_
  exact h

end Cert.KernelIdeal

end
-- ==== Proof.Body2.lean ====
/-
  The kernel's program, stretches 8 to 15: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part8 {kont} (h : St X w κ c 14 12 (.idle 3) (.idle 3) (cov c 2 2) ⊢ WP c (kont ⟨⟩) Q) :
    St X w κ c 12 10 (.sent 2) (.fly 2) (cov c 2 2) ⊢ WP c (k0_part8 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part8_eq_skeleton]; unfold k0_part8_skel; simp only [semSignalWord, semWaitWord, smemLoad, Prog.lift, Prog.bind_op, Prog.bind_ret, Prog.pure_eq_ret, Prog.bind_assoc, wp_deviceId, smemLoadElt_bind]
  refine lift_R (talk_recv X κ c false 2 12 10 rfl (by decide) (by decide) (by decide) rfl rfl rfl) ?_
  refine lift_L (talk_sent X κ c true 2 12 11 (by decide) (by decide) rfl rfl rfl) ?_
  refine lift_L (talk_recv X κ c true 2 12 11 rfl (by decide) (by decide) (by decide) rfl rfl rfl) ?_
  refine lift_R (talk_ack X κ c false 2 12 12 rfl (by decide) (Fin.ext (dev_left c)) rfl rfl) ?_
  refine lift_L (talk_ack X κ c true 2 13 12 rfl (by decide) (Fin.ext (dev_right c)) rfl rfl) ?_
  exact h

theorem part9 {kont} (h : St X w κ c 16 14 (.fly 3) (.fly 3) (cov c 2 2) ⊢ WP c (kont ⟨param c 4, (chk_R c 2), (k0_pay7 (slotRead (X (src false c 3))) w)⟩) Q) :
    St X w κ c 14 12 (.idle 3) (.idle 3) (cov c 2 2) ⊢ WP c (k0_part9 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part9_eq_skeleton]; unfold k0_part9_skel; simp only [semSignalWord, semWaitWord, smemLoad, Prog.lift, Prog.bind_op, Prog.bind_ret, Prog.pure_eq_ret, Prog.bind_assoc, wp_deviceId, smemLoadElt_bind]
  refine lift_R (talk_credit X κ c false 2 14 12 rfl (by decide) (by decide) (by decide) rfl rfl rfl) ?_
  refine lift_L (talk_credit X κ c true 2 14 13 rfl (by decide) (by decide) (by decide) rfl rfl rfl) ?_
  refine lift_R (talk_send X κ c false 3 14 14 rfl (by decide) (Fin.ext (dev_right c)) rfl rfl rfl rfl) ?_
  refine lift_L (talk_send X κ c true 3 15 14 rfl (by decide) (Fin.ext (dev_left c)) rfl rfl rfl rfl) ?_
  refine st_param X w κ c 4 (by decide) ?_
  refine st_assume X w κ c (chk_R c 2) ?_
  refine st_kept_R X w κ c 2 (load_squeeze c _ (fun _ => rfl) squeezes_S1x256x8192_S256x8192 _ _) ?_
  refine st_w X w κ c ?_
  exact h

theorem part10 {kont} (h : St X w κ c 16 14 (.sent 3) (.fly 3) (cov c 3 3) ⊢ WP c (kont ⟨⟩) Q) :
    St X w κ c 16 14 (.fly 3) (.fly 3) (cov c 2 2) ⊢ WP c (k0_part10 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 4) (chk_R c 2) (k0_pay7 (slotRead (X (src false c 3))) w) >>= kont) Q := by
  rw [k0_part10_eq_skeleton]; unfold k0_part10_skel; simp only [semSignalWord, semWaitWord, smemLoad, Prog.lift, Prog.bind_op, Prog.bind_ret, Prog.pure_eq_ret, Prog.bind_assoc, wp_deviceId, smemLoadElt_bind]
  refine st_peek X w κ c fun _ => ?_
  refine st_store X w κ c (src false c 3) (cov_R c 2 2) (off_R c 2) (gemm_slot w _) ?_
  refine st_param X w κ c 20 (by decide) ?_
  refine st_assume X w κ c (chk_L c 2) ?_
  refine st_kept_L X w κ c 2 (load_squeeze c _ (fun _ => rfl) squeezes_S1x256x8192_S256x8192 _ _) ?_
  refine st_w X w κ c ?_
  refine st_peek X w κ c fun _ => ?_
  refine st_store X w κ c (src true c 3) (cov_L c 3 2) (off_L c 2) (gemm_slot w _) ?_
  refine lift_R (talk_sent X κ c false 3 16 14 (by decide) (by decide) rfl rfl rfl) ?_
  exact h

theorem part11 {kont} (h : ∀ a, St X w κ c 18 18 (.ready 4) (.ready 4) (cov c 3 3) ⊢ WP c (kont a) Q) :
    St X w κ c 16 14 (.sent 3) (.fly 3) (cov c 3 3) ⊢ WP c (k0_part11 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part11_eq_skeleton]; unfold k0_part11_skel; simp only [semSignalWord, semWaitWord, smemLoad, Prog.lift, Prog.bind_op, Prog.bind_ret, Prog.pure_eq_ret, Prog.bind_assoc, wp_deviceId, smemLoadElt_bind]
  refine lift_R (talk_recv X κ c false 3 16 14 rfl (by decide) (by decide) (by decide) rfl rfl rfl) ?_
  refine lift_L (talk_sent X κ c true 3 16 15 (by decide) (by decide) rfl rfl rfl) ?_
  refine lift_L (talk_recv X κ c true 3 16 15 rfl (by decide) (by decide) (by decide) rfl rfl rfl) ?_
  refine lift_R (talk_ack X κ c false 3 16 16 rfl (by decide) (Fin.ext (dev_left c)) rfl rfl) ?_
  refine lift_L (talk_ack X κ c true 3 17 16 rfl (by decide) (Fin.ext (dev_right c)) rfl rfl) ?_
  refine lift_R (talk_credit X κ c false 3 18 16 rfl (by decide) (by decide) (by decide) rfl rfl rfl) ?_
  refine lift_L (talk_credit X κ c true 3 18 17 rfl (by decide) (by decide) (by decide) rfl rfl rfl) ?_
  exact h _

theorem part12 {kont} (h : St X w κ c 20 18 (.fly 4) (.fly 4) (cov c 4 3) ⊢ WP c (kont ⟨param c 21, (chk_L c 3)⟩) Q) (v268 : BitVec 32):
    St X w κ c 18 18 (.ready 4) (.ready 4) (cov c 3 3) ⊢ WP c (k0_part12 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) v268 >>= kont) Q := by
  rw [k0_part12_eq_skeleton]; unfold k0_part12_skel; simp only [semSignalWord, semWaitWord, smemLoad, Prog.lift, Prog.bind_op, Prog.bind_ret, Prog.pure_eq_ret, Prog.bind_assoc, wp_deviceId, smemLoadElt_bind]
  refine lift_R (talk_send X κ c false 4 18 18 rfl (by decide) (Fin.ext (dev_right c)) rfl rfl rfl rfl) ?_
  refine lift_L (talk_send X κ c true 4 19 18 rfl (by decide) (Fin.ext (dev_left c)) rfl rfl rfl rfl) ?_
  refine st_param X w κ c 5 (by decide) ?_
  refine st_assume X w κ c (chk_R c 3) ?_
  refine st_kept_R X w κ c 3 (load_squeeze c _ (fun _ => rfl) squeezes_S1x256x8192_S256x8192 _ _) ?_
  refine st_w X w κ c ?_
  refine st_peek X w κ c fun _ => ?_
  refine st_store X w κ c (src false c 4) (cov_R c 3 3) (off_R c 3) (gemm_slot w _) ?_
  refine st_param X w κ c 21 (by decide) ?_
  refine st_assume X w κ c (chk_L c 3) ?_
  exact h

theorem part13 {kont} (h : St X w κ c 20 19 (.done 4) (.fly 4) (cov c 4 4) ⊢ WP c (kont ⟨⟩) Q) :
    St X w κ c 20 18 (.fly 4) (.fly 4) (cov c 4 3) ⊢ WP c (k0_part13 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 21) (chk_L c 3) >>= kont) Q := by
  rw [k0_part13_eq_skeleton]; unfold k0_part13_skel; simp only [semSignalWord, semWaitWord, smemLoad, Prog.lift, Prog.bind_op, Prog.bind_ret, Prog.pure_eq_ret, Prog.bind_assoc, wp_deviceId, smemLoadElt_bind]
  refine st_kept_L X w κ c 3 (load_squeeze c _ (fun _ => rfl) squeezes_S1x256x8192_S256x8192 _ _) ?_
  refine st_w X w κ c ?_
  refine st_peek X w κ c fun _ => ?_
  refine st_store X w κ c (src true c 4) (cov_L c 4 3) (off_L c 3) (gemm_slot w _) ?_
  refine lift_R (talk_sent X κ c false 4 20 18 (by decide) (by decide) rfl rfl rfl) ?_
  refine lift_R (talk_recv X κ c false 4 20 18 rfl (by decide) (by decide) (by decide) rfl rfl rfl) ?_
  exact h

theorem part14 {kont} (h : St X w κ c 22 22 (.ready 5) (.ready 5) (cov c 4 4) ⊢ WP c (kont ⟨⟩) Q) :
    St X w κ c 20 19 (.done 4) (.fly 4) (cov c 4 4) ⊢ WP c (k0_part14 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part14_eq_skeleton]; unfold k0_part14_skel; simp only [semSignalWord, semWaitWord, smemLoad, Prog.lift, Prog.bind_op, Prog.bind_ret, Prog.pure_eq_ret, Prog.bind_assoc, wp_deviceId, smemLoadElt_bind]
  refine lift_L (talk_sent X κ c true 4 20 19 (by decide) (by decide) rfl rfl rfl) ?_
  refine lift_L (talk_recv X κ c true 4 20 19 rfl (by decide) (by decide) (by decide) rfl rfl rfl) ?_
  refine lift_R (talk_ack X κ c false 4 20 20 rfl (by decide) (Fin.ext (dev_left c)) rfl rfl) ?_
  refine lift_L (talk_ack X κ c true 4 21 20 rfl (by decide) (Fin.ext (dev_right c)) rfl rfl) ?_
  refine lift_R (talk_credit X κ c false 4 22 20 rfl (by decide) (by decide) (by decide) rfl rfl rfl) ?_
  refine lift_L (talk_credit X κ c true 4 22 21 rfl (by decide) (by decide) (by decide) rfl rfl rfl) ?_
  exact h

theorem part15 {kont} (h : St X w κ c 24 22 (.fly 5) (.fly 5) (cov c 5 4) ⊢ WP c (kont ⟨param c 22, (chk_L c 4), (k0_pay12 (slotRead (X (src true c 5))) w)⟩) Q) :
    St X w κ c 22 22 (.ready 5) (.ready 5) (cov c 4 4) ⊢ WP c (k0_part15 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part15_eq_skeleton]; unfold k0_part15_skel; simp only [semSignalWord, semWaitWord, smemLoad, Prog.lift, Prog.bind_op, Prog.bind_ret, Prog.pure_eq_ret, Prog.bind_assoc, wp_deviceId, smemLoadElt_bind]
  refine lift_R (talk_send X κ c false 5 22 22 rfl (by decide) (Fin.ext (dev_right c)) rfl rfl rfl rfl) ?_
  refine lift_L (talk_send X κ c true 5 23 22 rfl (by decide) (Fin.ext (dev_left c)) rfl rfl rfl rfl) ?_
  refine st_param X w κ c 6 (by decide) ?_
  refine st_assume X w κ c (chk_R c 4) ?_
  refine st_kept_R X w κ c 4 (load_squeeze c _ (fun _ => rfl) squeezes_S1x256x8192_S256x8192 _ _) ?_
  refine st_w X w κ c ?_
  refine st_peek X w κ c fun _ => ?_
  refine st_store X w κ c (src false c 5) (cov_R c 4 4) (off_R c 4) (gemm_slot w _) ?_
  refine st_param X w κ c 22 (by decide) ?_
  refine st_assume X w κ c (chk_L c 4) ?_
  refine st_kept_L X w κ c 4 (load_squeeze c _ (fun _ => rfl) squeezes_S1x256x8192_S256x8192 _ _) ?_
  refine st_w X w κ c ?_
  exact h

end Cert.KernelIdeal

end
-- ==== Proof.Body3.lean ====
/-
  The kernel's program, stretches 16 to 22: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part16 {kont} (h : St X w κ c 24 23 (.done 5) (.sent 5) (cov c 5 5) ⊢ WP c (kont ⟨⟩) Q) :
    St X w κ c 24 22 (.fly 5) (.fly 5) (cov c 5 4) ⊢ WP c (k0_part16 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 22) (chk_L c 4) (k0_pay12 (slotRead (X (src true c 5))) w) >>= kont) Q := by
  rw [k0_part16_eq_skeleton]; unfold k0_part16_skel; simp only [semSignalWord, semWaitWord, smemLoad, Prog.lift, Prog.bind_op, Prog.bind_ret, Prog.pure_eq_ret, Prog.bind_assoc, wp_deviceId, smemLoadElt_bind]
  refine st_peek X w κ c fun _ => ?_
  refine st_store X w κ c (src true c 5) (cov_L c 5 4) (off_L c 4) (gemm_slot w _) ?_
  refine lift_R (talk_sent X κ c false 5 24 22 (by decide) (by decide) rfl rfl rfl) ?_
  refine lift_R (talk_recv X κ c false 5 24 22 rfl (by decide) (by decide) (by decide) rfl rfl rfl) ?_
  refine lift_L (talk_sent X κ c true 5 24 23 (by decide) (by decide) rfl rfl rfl) ?_
  exact h

theorem part17 {kont} (h : St X w κ c 27 26 (.fly 6) (.ready 6) (cov c 5 5) ⊢ WP c (kont 1#32) Q) :
    St X w κ c 24 23 (.done 5) (.sent 5) (cov c 5 5) ⊢ WP c (k0_part17 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part17_eq_skeleton]; unfold k0_part17_skel; simp only [semSignalWord, semWaitWord, smemLoad, Prog.lift, Prog.bind_op, Prog.bind_ret, Prog.pure_eq_ret, Prog.bind_assoc, wp_deviceId, smemLoadElt_bind]
  refine lift_L (talk_recv X κ c true 5 24 23 rfl (by decide) (by decide) (by decide) rfl rfl rfl) ?_
  refine lift_R (talk_ack X κ c false 5 24 24 rfl (by decide) (Fin.ext (dev_left c)) rfl rfl) ?_
  refine lift_L (talk_ack X κ c true 5 25 24 rfl (by decide) (Fin.ext (dev_right c)) rfl rfl) ?_
  refine lift_R (talk_credit X κ c false 5 26 24 rfl (by decide) (by decide) (by decide) rfl rfl rfl) ?_
  refine lift_L (talk_credit X κ c true 5 26 25 rfl (by decide) (by decide) (by decide) rfl rfl rfl) ?_
  refine lift_R (talk_send X κ c false 6 26 26 rfl (by decide) (Fin.ext (dev_right c)) rfl rfl rfl rfl) ?_
  exact h

theorem part18 {kont} (h : St X w κ c 28 26 (.fly 6) (.fly 6) (cov c 6 6) ⊢ WP c (kont ⟨⟩) Q) (c1_i32_494 : BitVec 32):
    St X w κ c 27 26 (.fly 6) (.ready 6) (cov c 5 5) ⊢ WP c (k0_part18 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) c1_i32_494 >>= kont) Q := by
  rw [k0_part18_eq_skeleton]; unfold k0_part18_skel; simp only [semSignalWord, semWaitWord, smemLoad, Prog.lift, Prog.bind_op, Prog.bind_ret, Prog.pure_eq_ret, Prog.bind_assoc, wp_deviceId, smemLoadElt_bind]
  refine lift_L (talk_send X κ c true 6 27 26 rfl (by decide) (Fin.ext (dev_left c)) rfl rfl rfl rfl) ?_
  refine st_param X w κ c 7 (by decide) ?_
  refine st_assume X w κ c (chk_R c 5) ?_
  refine st_kept_R X w κ c 5 (load_squeeze c _ (fun _ => rfl) squeezes_S1x256x8192_S256x8192 _ _) ?_
  refine st_w X w κ c ?_
  refine st_peek X w κ c fun _ => ?_
  refine st_store X w κ c (src false c 6) (cov_R c 5 5) (off_R c 5) (gemm_slot w _) ?_
  refine st_param X w κ c 23 (by decide) ?_
  refine st_assume X w κ c (chk_L c 5) ?_
  refine st_kept_L X w κ c 5 (load_squeeze c _ (fun _ => rfl) squeezes_S1x256x8192_S256x8192 _ _) ?_
  refine st_w X w κ c ?_
  refine st_peek X w κ c fun _ => ?_
  refine st_store X w κ c (src true c 6) (cov_L c 6 5) (off_L c 5) (gemm_slot w _) ?_
  exact h

theorem part19 {kont} (h : St X w κ c 28 27 (.done 6) (.sent 6) (cov c 6 6) ⊢ WP c (kont ⟨⟩) Q) :
    St X w κ c 28 26 (.fly 6) (.fly 6) (cov c 6 6) ⊢ WP c (k0_part19 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (param c 1) >>= kont) Q := by
  rw [k0_part19_eq_skeleton]; unfold k0_part19_skel; simp only [semSignalWord, semWaitWord, smemLoad, Prog.lift, Prog.bind_op, Prog.bind_ret, Prog.pure_eq_ret, Prog.bind_assoc, wp_deviceId, smemLoadElt_bind]
  refine lift_R (talk_sent X κ c false 6 28 26 (by decide) (by decide) rfl rfl rfl) ?_
  refine lift_R (talk_recv X κ c false 6 28 26 rfl (by decide) (by decide) (by decide) rfl rfl rfl) ?_
  refine lift_L (talk_sent X κ c true 6 28 27 (by decide) (by decide) rfl rfl rfl) ?_
  exact h

theorem part20 {kont} (h : St X w κ c 31 30 (.fly 7) (.ready 7) (cov c 6 6) ⊢ WP c (kont ⟨⟩) Q) :
    St X w κ c 28 27 (.done 6) (.sent 6) (cov c 6 6) ⊢ WP c (k0_part20 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part20_eq_skeleton]; unfold k0_part20_skel; simp only [semSignalWord, semWaitWord, smemLoad, Prog.lift, Prog.bind_op, Prog.bind_ret, Prog.pure_eq_ret, Prog.bind_assoc, wp_deviceId, smemLoadElt_bind]
  refine lift_L (talk_recv X κ c true 6 28 27 rfl (by decide) (by decide) (by decide) rfl rfl rfl) ?_
  refine lift_R (talk_ack X κ c false 6 28 28 rfl (by decide) (Fin.ext (dev_left c)) rfl rfl) ?_
  refine lift_L (talk_ack X κ c true 6 29 28 rfl (by decide) (Fin.ext (dev_right c)) rfl rfl) ?_
  refine lift_R (talk_credit X κ c false 6 30 28 rfl (by decide) (by decide) (by decide) rfl rfl rfl) ?_
  refine lift_L (talk_credit X κ c true 6 30 29 rfl (by decide) (by decide) (by decide) rfl rfl rfl) ?_
  refine lift_R (talk_send X κ c false 7 30 30 rfl (by decide) (Fin.ext (dev_right c)) rfl rfl rfl rfl) ?_
  exact h

theorem part21 {kont} (h : St X w κ c 32 30 (.fly 7) (.fly 7) (cov c 7 7) ⊢ WP c (kont ⟨⟩) Q) :
    St X w κ c 31 30 (.fly 7) (.ready 7) (cov c 6 6) ⊢ WP c (k0_part21 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) >>= kont) Q := by
  rw [k0_part21_eq_skeleton]; unfold k0_part21_skel; simp only [semSignalWord, semWaitWord, smemLoad, Prog.lift, Prog.bind_op, Prog.bind_ret, Prog.pure_eq_ret, Prog.bind_assoc, wp_deviceId, smemLoadElt_bind]
  refine lift_L (talk_send X κ c true 7 31 30 rfl (by decide) (Fin.ext (dev_left c)) rfl rfl rfl rfl) ?_
  refine st_param X w κ c 8 (by decide) ?_
  refine st_assume X w κ c (chk_R c 6) ?_
  refine st_kept_R X w κ c 6 (load_squeeze c _ (fun _ => rfl) squeezes_S1x256x8192_S256x8192 _ _) ?_
  refine st_w X w κ c ?_
  refine st_peek X w κ c fun _ => ?_
  refine st_store X w κ c (src false c 7) (cov_R c 6 6) (off_R c 6) (gemm_slot w _) ?_
  refine st_param X w κ c 24 (by decide) ?_
  refine st_assume X w κ c (chk_L c 6) ?_
  refine st_kept_L X w κ c 6 (load_squeeze c _ (fun _ => rfl) squeezes_S1x256x8192_S256x8192 _ _) ?_
  refine st_w X w κ c ?_
  refine st_peek X w κ c fun _ => ?_
  refine st_store X w κ c (src true c 7) (cov_L c 7 6) (off_L c 6) (gemm_slot w _) ?_
  exact h

theorem part22 {kont} (h : ∀ a, St X w κ c 32 32 (.done 7) (.done 7) (cov c 7 7) ⊢ WP c (kont ⟨a, 0#32⟩) Q) :
    St X w κ c 32 30 (.fly 7) (.fly 7) (cov c 7 7) ⊢ WP c (k0_part22 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (param c 1) >>= kont) Q := by
  rw [k0_part22_eq_skeleton]; unfold k0_part22_skel; simp only [semSignalWord, semWaitWord, smemLoad, Prog.lift, Prog.bind_op, Prog.bind_ret, Prog.pure_eq_ret, Prog.bind_assoc, wp_deviceId, smemLoadElt_bind]
  refine lift_R (talk_sent X κ c false 7 32 30 (by decide) (by decide) rfl rfl rfl) ?_
  refine lift_R (talk_recv X κ c false 7 32 30 rfl (by decide) (by decide) (by decide) rfl rfl rfl) ?_
  refine lift_L (talk_sent X κ c true 7 32 31 (by decide) (by decide) rfl rfl rfl) ?_
  refine lift_L (talk_recv X κ c true 7 32 31 rfl (by decide) (by decide) (by decide) rfl rfl rfl) ?_
  exact h _

end Cert.KernelIdeal

end
-- ==== Proof.Body4.lean ====
/-
  The kernel's program, stretches 23 to 30: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part23 {kont} (h : St X w κ c 36 34 (.fly 8) (.fly 8) (cov c 7 7) ⊢ WP c (kont ⟨param c 9, (chk_R c 7)⟩) Q) (v544 : BitVec 32) (c0_i32_640 : BitVec 32):
    St X w κ c 32 32 (.done 7) (.done 7) (cov c 7 7) ⊢ WP c (k0_part23 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) v544 c0_i32_640 >>= kont) Q := by
  rw [k0_part23_eq_skeleton]; unfold k0_part23_skel; simp only [semSignalWord, semWaitWord, smemLoad, Prog.lift, Prog.bind_op, Prog.bind_ret, Prog.pure_eq_ret, Prog.bind_assoc, wp_deviceId, smemLoadElt_bind]
  refine lift_R (talk_ack X κ c false 7 32 32 rfl (by decide) (Fin.ext (dev_left c)) rfl rfl) ?_
  refine lift_L (talk_ack X κ c true 7 33 32 rfl (by decide) (Fin.ext (dev_right c)) rfl rfl) ?_
  refine lift_R (talk_credit X κ c false 7 34 32 rfl (by decide) (by decide) (by decide) rfl rfl rfl) ?_
  refine lift_L (talk_credit X κ c true 7 34 33 rfl (by decide) (by decide) (by decide) rfl rfl rfl) ?_
  refine lift_R (talk_send X κ c false 8 34 34 rfl (by decide) (Fin.ext (dev_right c)) rfl rfl rfl rfl) ?_
  refine lift_L (talk_send X κ c true 8 35 34 rfl (by decide) (Fin.ext (dev_left c)) rfl rfl rfl rfl) ?_
  refine st_param X w κ c 9 (by decide) ?_
  refine st_assume X w κ c (chk_R c 7) ?_
  exact h

theorem part24 {kont} (h : St X w κ c 36 34 (.sent 8) (.fly 8) (cov c 8 8) ⊢ WP c (kont ⟨⟩) Q) :
    St X w κ c 36 34 (.fly 8) (.fly 8) (cov c 7 7) ⊢ WP c (k0_part24 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 9) (chk_R c 7) >>= kont) Q := by
  rw [k0_part24_eq_skeleton]; unfold k0_part24_skel; simp only [semSignalWord, semWaitWord, smemLoad, Prog.lift, Prog.bind_op, Prog.bind_ret, Prog.pure_eq_ret, Prog.bind_assoc, wp_deviceId, smemLoadElt_bind]
  refine st_kept_R X w κ c 7 (load_squeeze c _ (fun _ => rfl) squeezes_S1x256x8192_S256x8192 _ _) ?_
  refine st_w X w κ c ?_
  refine st_peek X w κ c fun _ => ?_
  refine st_store X w κ c (src false c 8) (cov_R c 7 7) (off_R c 7) (gemm_slot w _) ?_
  refine st_param X w κ c 25 (by decide) ?_
  refine st_assume X w κ c (chk_L c 7) ?_
  refine st_kept_L X w κ c 7 (load_squeeze c _ (fun _ => rfl) squeezes_S1x256x8192_S256x8192 _ _) ?_
  refine st_w X w κ c ?_
  refine st_peek X w κ c fun _ => ?_
  refine st_store X w κ c (src true c 8) (cov_L c 8 7) (off_L c 7) (gemm_slot w _) ?_
  refine lift_R (talk_sent X κ c false 8 36 34 (by decide) (by decide) rfl rfl rfl) ?_
  exact h

theorem part25 {kont} (h : St X w κ c 38 36 (.idle 9) (.idle 9) (cov c 8 8) ⊢ WP c (kont ⟨⟩) Q) :
    St X w κ c 36 34 (.sent 8) (.fly 8) (cov c 8 8) ⊢ WP c (k0_part25 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part25_eq_skeleton]; unfold k0_part25_skel; simp only [semSignalWord, semWaitWord, smemLoad, Prog.lift, Prog.bind_op, Prog.bind_ret, Prog.pure_eq_ret, Prog.bind_assoc, wp_deviceId, smemLoadElt_bind]
  refine lift_R (talk_recv X κ c false 8 36 34 rfl (by decide) (by decide) (by decide) rfl rfl rfl) ?_
  refine lift_L (talk_sent X κ c true 8 36 35 (by decide) (by decide) rfl rfl rfl) ?_
  refine lift_L (talk_recv X κ c true 8 36 35 rfl (by decide) (by decide) (by decide) rfl rfl rfl) ?_
  refine lift_R (talk_ack X κ c false 8 36 36 rfl (by decide) (Fin.ext (dev_left c)) rfl rfl) ?_
  refine lift_L (talk_ack X κ c true 8 37 36 rfl (by decide) (Fin.ext (dev_right c)) rfl rfl) ?_
  exact h

theorem part26 {kont} (h : St X w κ c 40 38 (.fly 9) (.fly 9) (cov c 8 8) ⊢ WP c (kont ⟨param c 10, (chk_R c 8), (k0_pay19 (slotRead (X (src false c 9))) w)⟩) Q) :
    St X w κ c 38 36 (.idle 9) (.idle 9) (cov c 8 8) ⊢ WP c (k0_part26 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part26_eq_skeleton]; unfold k0_part26_skel; simp only [semSignalWord, semWaitWord, smemLoad, Prog.lift, Prog.bind_op, Prog.bind_ret, Prog.pure_eq_ret, Prog.bind_assoc, wp_deviceId, smemLoadElt_bind]
  refine lift_R (talk_credit X κ c false 8 38 36 rfl (by decide) (by decide) (by decide) rfl rfl rfl) ?_
  refine lift_L (talk_credit X κ c true 8 38 37 rfl (by decide) (by decide) (by decide) rfl rfl rfl) ?_
  refine lift_R (talk_send X κ c false 9 38 38 rfl (by decide) (Fin.ext (dev_right c)) rfl rfl rfl rfl) ?_
  refine lift_L (talk_send X κ c true 9 39 38 rfl (by decide) (Fin.ext (dev_left c)) rfl rfl rfl rfl) ?_
  refine st_param X w κ c 10 (by decide) ?_
  refine st_assume X w κ c (chk_R c 8) ?_
  refine st_kept_R X w κ c 8 (load_squeeze c _ (fun _ => rfl) squeezes_S1x256x8192_S256x8192 _ _) ?_
  refine st_w X w κ c ?_
  exact h

theorem part27 {kont} (h : St X w κ c 40 38 (.sent 9) (.fly 9) (cov c 9 9) ⊢ WP c (kont ⟨⟩) Q) :
    St X w κ c 40 38 (.fly 9) (.fly 9) (cov c 8 8) ⊢ WP c (k0_part27 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 10) (chk_R c 8) (k0_pay19 (slotRead (X (src false c 9))) w) >>= kont) Q := by
  rw [k0_part27_eq_skeleton]; unfold k0_part27_skel; simp only [semSignalWord, semWaitWord, smemLoad, Prog.lift, Prog.bind_op, Prog.bind_ret, Prog.pure_eq_ret, Prog.bind_assoc, wp_deviceId, smemLoadElt_bind]
  refine st_peek X w κ c fun _ => ?_
  refine st_store X w κ c (src false c 9) (cov_R c 8 8) (off_R c 8) (gemm_slot w _) ?_
  refine st_param X w κ c 26 (by decide) ?_
  refine st_assume X w κ c (chk_L c 8) ?_
  refine st_kept_L X w κ c 8 (load_squeeze c _ (fun _ => rfl) squeezes_S1x256x8192_S256x8192 _ _) ?_
  refine st_w X w κ c ?_
  refine st_peek X w κ c fun _ => ?_
  refine st_store X w κ c (src true c 9) (cov_L c 9 8) (off_L c 8) (gemm_slot w _) ?_
  refine lift_R (talk_sent X κ c false 9 40 38 (by decide) (by decide) rfl rfl rfl) ?_
  exact h

theorem part28 {kont} (h : ∀ a, St X w κ c 42 42 (.ready 10) (.ready 10) (cov c 9 9) ⊢ WP c (kont a) Q) :
    St X w κ c 40 38 (.sent 9) (.fly 9) (cov c 9 9) ⊢ WP c (k0_part28 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part28_eq_skeleton]; unfold k0_part28_skel; simp only [semSignalWord, semWaitWord, smemLoad, Prog.lift, Prog.bind_op, Prog.bind_ret, Prog.pure_eq_ret, Prog.bind_assoc, wp_deviceId, smemLoadElt_bind]
  refine lift_R (talk_recv X κ c false 9 40 38 rfl (by decide) (by decide) (by decide) rfl rfl rfl) ?_
  refine lift_L (talk_sent X κ c true 9 40 39 (by decide) (by decide) rfl rfl rfl) ?_
  refine lift_L (talk_recv X κ c true 9 40 39 rfl (by decide) (by decide) (by decide) rfl rfl rfl) ?_
  refine lift_R (talk_ack X κ c false 9 40 40 rfl (by decide) (Fin.ext (dev_left c)) rfl rfl) ?_
  refine lift_L (talk_ack X κ c true 9 41 40 rfl (by decide) (Fin.ext (dev_right c)) rfl rfl) ?_
  refine lift_R (talk_credit X κ c false 9 42 40 rfl (by decide) (by decide) (by decide) rfl rfl rfl) ?_
  refine lift_L (talk_credit X κ c true 9 42 41 rfl (by decide) (by decide) (by decide) rfl rfl rfl) ?_
  exact h _

theorem part29 {kont} (h : St X w κ c 44 42 (.fly 10) (.fly 10) (cov c 10 9) ⊢ WP c (kont ⟨param c 27, (chk_L c 9)⟩) Q) (v688 : BitVec 32):
    St X w κ c 42 42 (.ready 10) (.ready 10) (cov c 9 9) ⊢ WP c (k0_part29 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) v688 >>= kont) Q := by
  rw [k0_part29_eq_skeleton]; unfold k0_part29_skel; simp only [semSignalWord, semWaitWord, smemLoad, Prog.lift, Prog.bind_op, Prog.bind_ret, Prog.pure_eq_ret, Prog.bind_assoc, wp_deviceId, smemLoadElt_bind]
  refine lift_R (talk_send X κ c false 10 42 42 rfl (by decide) (Fin.ext (dev_right c)) rfl rfl rfl rfl) ?_
  refine lift_L (talk_send X κ c true 10 43 42 rfl (by decide) (Fin.ext (dev_left c)) rfl rfl rfl rfl) ?_
  refine st_param X w κ c 11 (by decide) ?_
  refine st_assume X w κ c (chk_R c 9) ?_
  refine st_kept_R X w κ c 9 (load_squeeze c _ (fun _ => rfl) squeezes_S1x256x8192_S256x8192 _ _) ?_
  refine st_w X w κ c ?_
  refine st_peek X w κ c fun _ => ?_
  refine st_store X w κ c (src false c 10) (cov_R c 9 9) (off_R c 9) (gemm_slot w _) ?_
  refine st_param X w κ c 27 (by decide) ?_
  refine st_assume X w κ c (chk_L c 9) ?_
  exact h

theorem part30 {kont} (h : St X w κ c 44 43 (.done 10) (.fly 10) (cov c 10 10) ⊢ WP c (kont ⟨⟩) Q) :
    St X w κ c 44 42 (.fly 10) (.fly 10) (cov c 10 9) ⊢ WP c (k0_part30 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 27) (chk_L c 9) >>= kont) Q := by
  rw [k0_part30_eq_skeleton]; unfold k0_part30_skel; simp only [semSignalWord, semWaitWord, smemLoad, Prog.lift, Prog.bind_op, Prog.bind_ret, Prog.pure_eq_ret, Prog.bind_assoc, wp_deviceId, smemLoadElt_bind]
  refine st_kept_L X w κ c 9 (load_squeeze c _ (fun _ => rfl) squeezes_S1x256x8192_S256x8192 _ _) ?_
  refine st_w X w κ c ?_
  refine st_peek X w κ c fun _ => ?_
  refine st_store X w κ c (src true c 10) (cov_L c 10 9) (off_L c 9) (gemm_slot w _) ?_
  refine lift_R (talk_sent X κ c false 10 44 42 (by decide) (by decide) rfl rfl rfl) ?_
  refine lift_R (talk_recv X κ c false 10 44 42 rfl (by decide) (by decide) (by decide) rfl rfl rfl) ?_
  exact h

end Cert.KernelIdeal

end
-- ==== Proof.Body5.lean ====
/-
  The kernel's program, stretches 31 to 37: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part31 {kont} (h : St X w κ c 46 46 (.ready 11) (.ready 11) (cov c 10 10) ⊢ WP c (kont ⟨⟩) Q) :
    St X w κ c 44 43 (.done 10) (.fly 10) (cov c 10 10) ⊢ WP c (k0_part31 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part31_eq_skeleton]; unfold k0_part31_skel; simp only [semSignalWord, semWaitWord, smemLoad, Prog.lift, Prog.bind_op, Prog.bind_ret, Prog.pure_eq_ret, Prog.bind_assoc, wp_deviceId, smemLoadElt_bind]
  refine lift_L (talk_sent X κ c true 10 44 43 (by decide) (by decide) rfl rfl rfl) ?_
  refine lift_L (talk_recv X κ c true 10 44 43 rfl (by decide) (by decide) (by decide) rfl rfl rfl) ?_
  refine lift_R (talk_ack X κ c false 10 44 44 rfl (by decide) (Fin.ext (dev_left c)) rfl rfl) ?_
  refine lift_L (talk_ack X κ c true 10 45 44 rfl (by decide) (Fin.ext (dev_right c)) rfl rfl) ?_
  refine lift_R (talk_credit X κ c false 10 46 44 rfl (by decide) (by decide) (by decide) rfl rfl rfl) ?_
  refine lift_L (talk_credit X κ c true 10 46 45 rfl (by decide) (by decide) (by decide) rfl rfl rfl) ?_
  exact h

theorem part32 {kont} (h : St X w κ c 48 46 (.fly 11) (.fly 11) (cov c 11 10) ⊢ WP c (kont ⟨param c 28, (chk_L c 10), (k0_pay24 (slotRead (X (src true c 11))) w)⟩) Q) :
    St X w κ c 46 46 (.ready 11) (.ready 11) (cov c 10 10) ⊢ WP c (k0_part32 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part32_eq_skeleton]; unfold k0_part32_skel; simp only [semSignalWord, semWaitWord, smemLoad, Prog.lift, Prog.bind_op, Prog.bind_ret, Prog.pure_eq_ret, Prog.bind_assoc, wp_deviceId, smemLoadElt_bind]
  refine lift_R (talk_send X κ c false 11 46 46 rfl (by decide) (Fin.ext (dev_right c)) rfl rfl rfl rfl) ?_
  refine lift_L (talk_send X κ c true 11 47 46 rfl (by decide) (Fin.ext (dev_left c)) rfl rfl rfl rfl) ?_
  refine st_param X w κ c 12 (by decide) ?_
  refine st_assume X w κ c (chk_R c 10) ?_
  refine st_kept_R X w κ c 10 (load_squeeze c _ (fun _ => rfl) squeezes_S1x256x8192_S256x8192 _ _) ?_
  refine st_w X w κ c ?_
  refine st_peek X w κ c fun _ => ?_
  refine st_store X w κ c (src false c 11) (cov_R c 10 10) (off_R c 10) (gemm_slot w _) ?_
  refine st_param X w κ c 28 (by decide) ?_
  refine st_assume X w κ c (chk_L c 10) ?_
  refine st_kept_L X w κ c 10 (load_squeeze c _ (fun _ => rfl) squeezes_S1x256x8192_S256x8192 _ _) ?_
  refine st_w X w κ c ?_
  exact h

theorem part33 {kont} (h : St X w κ c 48 47 (.done 11) (.sent 11) (cov c 11 11) ⊢ WP c (kont ⟨⟩) Q) :
    St X w κ c 48 46 (.fly 11) (.fly 11) (cov c 11 10) ⊢ WP c (k0_part33 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 28) (chk_L c 10) (k0_pay24 (slotRead (X (src true c 11))) w) >>= kont) Q := by
  rw [k0_part33_eq_skeleton]; unfold k0_part33_skel; simp only [semSignalWord, semWaitWord, smemLoad, Prog.lift, Prog.bind_op, Prog.bind_ret, Prog.pure_eq_ret, Prog.bind_assoc, wp_deviceId, smemLoadElt_bind]
  refine st_peek X w κ c fun _ => ?_
  refine st_store X w κ c (src true c 11) (cov_L c 11 10) (off_L c 10) (gemm_slot w _) ?_
  refine lift_R (talk_sent X κ c false 11 48 46 (by decide) (by decide) rfl rfl rfl) ?_
  refine lift_R (talk_recv X κ c false 11 48 46 rfl (by decide) (by decide) (by decide) rfl rfl rfl) ?_
  refine lift_L (talk_sent X κ c true 11 48 47 (by decide) (by decide) rfl rfl rfl) ?_
  exact h

theorem part34 {kont} (h : St X w κ c 51 50 (.fly 12) (.ready 12) (cov c 11 11) ⊢ WP c (kont 1#32) Q) :
    St X w κ c 48 47 (.done 11) (.sent 11) (cov c 11 11) ⊢ WP c (k0_part34 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part34_eq_skeleton]; unfold k0_part34_skel; simp only [semSignalWord, semWaitWord, smemLoad, Prog.lift, Prog.bind_op, Prog.bind_ret, Prog.pure_eq_ret, Prog.bind_assoc, wp_deviceId, smemLoadElt_bind]
  refine lift_L (talk_recv X κ c true 11 48 47 rfl (by decide) (by decide) (by decide) rfl rfl rfl) ?_
  refine lift_R (talk_ack X κ c false 11 48 48 rfl (by decide) (Fin.ext (dev_left c)) rfl rfl) ?_
  refine lift_L (talk_ack X κ c true 11 49 48 rfl (by decide) (Fin.ext (dev_right c)) rfl rfl) ?_
  refine lift_R (talk_credit X κ c false 11 50 48 rfl (by decide) (by decide) (by decide) rfl rfl rfl) ?_
  refine lift_L (talk_credit X κ c true 11 50 49 rfl (by decide) (by decide) (by decide) rfl rfl rfl) ?_
  refine lift_R (talk_send X κ c false 12 50 50 rfl (by decide) (Fin.ext (dev_right c)) rfl rfl rfl rfl) ?_
  exact h

theorem part35 {kont} (h : St X w κ c 52 50 (.fly 12) (.fly 12) (cov c 12 12) ⊢ WP c (kont ⟨⟩) Q) (c1_i32_998 : BitVec 32):
    St X w κ c 51 50 (.fly 12) (.ready 12) (cov c 11 11) ⊢ WP c (k0_part35 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) c1_i32_998 >>= kont) Q := by
  rw [k0_part35_eq_skeleton]; unfold k0_part35_skel; simp only [semSignalWord, semWaitWord, smemLoad, Prog.lift, Prog.bind_op, Prog.bind_ret, Prog.pure_eq_ret, Prog.bind_assoc, wp_deviceId, smemLoadElt_bind]
  refine lift_L (talk_send X κ c true 12 51 50 rfl (by decide) (Fin.ext (dev_left c)) rfl rfl rfl rfl) ?_
  refine st_param X w κ c 13 (by decide) ?_
  refine st_assume X w κ c (chk_R c 11) ?_
  refine st_kept_R X w κ c 11 (load_squeeze c _ (fun _ => rfl) squeezes_S1x256x8192_S256x8192 _ _) ?_
  refine st_w X w κ c ?_
  refine st_peek X w κ c fun _ => ?_
  refine st_store X w κ c (src false c 12) (cov_R c 11 11) (off_R c 11) (gemm_slot w _) ?_
  refine st_param X w κ c 29 (by decide) ?_
  refine st_assume X w κ c (chk_L c 11) ?_
  refine st_kept_L X w κ c 11 (load_squeeze c _ (fun _ => rfl) squeezes_S1x256x8192_S256x8192 _ _) ?_
  refine st_w X w κ c ?_
  refine st_peek X w κ c fun _ => ?_
  refine st_store X w κ c (src true c 12) (cov_L c 12 11) (off_L c 11) (gemm_slot w _) ?_
  exact h

theorem part36 {kont} (h : St X w κ c 52 51 (.done 12) (.sent 12) (cov c 12 12) ⊢ WP c (kont ⟨⟩) Q) :
    St X w κ c 52 50 (.fly 12) (.fly 12) (cov c 12 12) ⊢ WP c (k0_part36 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (param c 1) >>= kont) Q := by
  rw [k0_part36_eq_skeleton]; unfold k0_part36_skel; simp only [semSignalWord, semWaitWord, smemLoad, Prog.lift, Prog.bind_op, Prog.bind_ret, Prog.pure_eq_ret, Prog.bind_assoc, wp_deviceId, smemLoadElt_bind]
  refine lift_R (talk_sent X κ c false 12 52 50 (by decide) (by decide) rfl rfl rfl) ?_
  refine lift_R (talk_recv X κ c false 12 52 50 rfl (by decide) (by decide) (by decide) rfl rfl rfl) ?_
  refine lift_L (talk_sent X κ c true 12 52 51 (by decide) (by decide) rfl rfl rfl) ?_
  exact h

theorem part37 {kont} (h : St X w κ c 55 54 (.fly 13) (.ready 13) (cov c 12 12) ⊢ WP c (kont ⟨⟩) Q) :
    St X w κ c 52 51 (.done 12) (.sent 12) (cov c 12 12) ⊢ WP c (k0_part37 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) >>= kont) Q := by
  rw [k0_part37_eq_skeleton]; unfold k0_part37_skel; simp only [semSignalWord, semWaitWord, smemLoad, Prog.lift, Prog.bind_op, Prog.bind_ret, Prog.pure_eq_ret, Prog.bind_assoc, wp_deviceId, smemLoadElt_bind]
  refine lift_L (talk_recv X κ c true 12 52 51 rfl (by decide) (by decide) (by decide) rfl rfl rfl) ?_
  refine lift_R (talk_ack X κ c false 12 52 52 rfl (by decide) (Fin.ext (dev_left c)) rfl rfl) ?_
  refine lift_L (talk_ack X κ c true 12 53 52 rfl (by decide) (Fin.ext (dev_right c)) rfl rfl) ?_
  refine lift_R (talk_credit X κ c false 12 54 52 rfl (by decide) (by decide) (by decide) rfl rfl rfl) ?_
  refine lift_L (talk_credit X κ c true 12 54 53 rfl (by decide) (by decide) (by decide) rfl rfl rfl) ?_
  refine lift_R (talk_send X κ c false 13 54 54 rfl (by decide) (Fin.ext (dev_right c)) rfl rfl rfl rfl) ?_
  exact h

end Cert.KernelIdeal

end
-- ==== Proof.Body6.lean ====
/-
  The kernel's program, stretches 38 to 43: each takes the state at its start to the state at its end.
-/
module

public import proofs.«01_k».proof.Proof.Step

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part38 {kont} (h : St X w κ c 56 54 (.fly 13) (.fly 13) (cov c 13 13) ⊢ WP c (kont ⟨⟩) Q) :
    St X w κ c 55 54 (.fly 13) (.ready 13) (cov c 12 12) ⊢ WP c (k0_part38 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) >>= kont) Q := by
  rw [k0_part38_eq_skeleton]; unfold k0_part38_skel; simp only [semSignalWord, semWaitWord, smemLoad, Prog.lift, Prog.bind_op, Prog.bind_ret, Prog.pure_eq_ret, Prog.bind_assoc, wp_deviceId, smemLoadElt_bind]
  refine lift_L (talk_send X κ c true 13 55 54 rfl (by decide) (Fin.ext (dev_left c)) rfl rfl rfl rfl) ?_
  refine st_param X w κ c 14 (by decide) ?_
  refine st_assume X w κ c (chk_R c 12) ?_
  refine st_kept_R X w κ c 12 (load_squeeze c _ (fun _ => rfl) squeezes_S1x256x8192_S256x8192 _ _) ?_
  refine st_w X w κ c ?_
  refine st_peek X w κ c fun _ => ?_
  refine st_store X w κ c (src false c 13) (cov_R c 12 12) (off_R c 12) (gemm_slot w _) ?_
  refine st_param X w κ c 30 (by decide) ?_
  refine st_assume X w κ c (chk_L c 12) ?_
  refine st_kept_L X w κ c 12 (load_squeeze c _ (fun _ => rfl) squeezes_S1x256x8192_S256x8192 _ _) ?_
  refine st_w X w κ c ?_
  refine st_peek X w κ c fun _ => ?_
  refine st_store X w κ c (src true c 13) (cov_L c 13 12) (off_L c 12) (gemm_slot w _) ?_
  exact h

theorem part39 {kont} (h : ∀ a, St X w κ c 56 56 (.done 13) (.done 13) (cov c 13 13) ⊢ WP c (kont ⟨a, 0#32⟩) Q) :
    St X w κ c 56 54 (.fly 13) (.fly 13) (cov c 13 13) ⊢ WP c (k0_part39 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (param c 1) >>= kont) Q := by
  rw [k0_part39_eq_skeleton]; unfold k0_part39_skel; simp only [semSignalWord, semWaitWord, smemLoad, Prog.lift, Prog.bind_op, Prog.bind_ret, Prog.pure_eq_ret, Prog.bind_assoc, wp_deviceId, smemLoadElt_bind]
  refine lift_R (talk_sent X κ c false 13 56 54 (by decide) (by decide) rfl rfl rfl) ?_
  refine lift_R (talk_recv X κ c false 13 56 54 rfl (by decide) (by decide) (by decide) rfl rfl rfl) ?_
  refine lift_L (talk_sent X κ c true 13 56 55 (by decide) (by decide) rfl rfl rfl) ?_
  refine lift_L (talk_recv X κ c true 13 56 55 rfl (by decide) (by decide) (by decide) rfl rfl rfl) ?_
  exact h _

theorem part40 {kont} (h : St X w κ c 60 58 (.fly 14) (.fly 14) (cov c 13 13) ⊢ WP c (kont ⟨param c 15, (chk_R c 13)⟩) Q) (v964 : BitVec 32) (c0_i32_1144 : BitVec 32):
    St X w κ c 56 56 (.done 13) (.done 13) (cov c 13 13) ⊢ WP c (k0_part40 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) (param c 1) (chk_right c) v964 c0_i32_1144 >>= kont) Q := by
  rw [k0_part40_eq_skeleton]; unfold k0_part40_skel; simp only [semSignalWord, semWaitWord, smemLoad, Prog.lift, Prog.bind_op, Prog.bind_ret, Prog.pure_eq_ret, Prog.bind_assoc, wp_deviceId, smemLoadElt_bind]
  refine lift_R (talk_ack X κ c false 13 56 56 rfl (by decide) (Fin.ext (dev_left c)) rfl rfl) ?_
  refine lift_L (talk_ack X κ c true 13 57 56 rfl (by decide) (Fin.ext (dev_right c)) rfl rfl) ?_
  refine lift_R (talk_credit X κ c false 13 58 56 rfl (by decide) (by decide) (by decide) rfl rfl rfl) ?_
  refine lift_L (talk_credit X κ c true 13 58 57 rfl (by decide) (by decide) (by decide) rfl rfl rfl) ?_
  refine lift_R (talk_send X κ c false 14 58 58 rfl (by decide) (Fin.ext (dev_right c)) rfl rfl rfl rfl) ?_
  refine lift_L (talk_send X κ c true 14 59 58 rfl (by decide) (Fin.ext (dev_left c)) rfl rfl rfl rfl) ?_
  refine st_param X w κ c 15 (by decide) ?_
  refine st_assume X w κ c (chk_R c 13) ?_
  exact h

theorem part41 {kont} (h : St X w κ c 60 58 (.sent 14) (.fly 14) (cov c 14 14) ⊢ WP c (kont ⟨⟩) Q) :
    St X w κ c 60 58 (.fly 14) (.fly 14) (cov c 13 13) ⊢ WP c (k0_part41 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (param c 15) (chk_R c 13) >>= kont) Q := by
  rw [k0_part41_eq_skeleton]; unfold k0_part41_skel; simp only [semSignalWord, semWaitWord, smemLoad, Prog.lift, Prog.bind_op, Prog.bind_ret, Prog.pure_eq_ret, Prog.bind_assoc, wp_deviceId, smemLoadElt_bind]
  refine st_kept_R X w κ c 13 (load_squeeze c _ (fun _ => rfl) squeezes_S1x256x8192_S256x8192 _ _) ?_
  refine st_w X w κ c ?_
  refine st_peek X w κ c fun _ => ?_
  refine st_store X w κ c (src false c 14) (cov_R c 13 13) (off_R c 13) (gemm_slot w _) ?_
  refine st_param X w κ c 31 (by decide) ?_
  refine st_assume X w κ c (chk_L c 13) ?_
  refine st_kept_L X w κ c 13 (load_squeeze c _ (fun _ => rfl) squeezes_S1x256x8192_S256x8192 _ _) ?_
  refine st_w X w κ c ?_
  refine st_peek X w κ c fun _ => ?_
  refine st_store X w κ c (src true c 14) (cov_L c 14 13) (off_L c 13) (gemm_slot w _) ?_
  refine lift_R (talk_sent X κ c false 14 60 58 (by decide) (by decide) rfl rfl rfl) ?_
  exact h

theorem part42 {kont} (h : St X w κ c 61 61 (.ready 15) (.done 14) (cov c 14 14) ⊢ WP c (kont 1#32) Q) :
    St X w κ c 60 58 (.sent 14) (.fly 14) (cov c 14 14) ⊢ WP c (k0_part42 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 0) (chk_left c) >>= kont) Q := by
  rw [k0_part42_eq_skeleton]; unfold k0_part42_skel; simp only [semSignalWord, semWaitWord, smemLoad, Prog.lift, Prog.bind_op, Prog.bind_ret, Prog.pure_eq_ret, Prog.bind_assoc, wp_deviceId, smemLoadElt_bind]
  refine lift_R (talk_recv X κ c false 14 60 58 rfl (by decide) (by decide) (by decide) rfl rfl rfl) ?_
  refine lift_L (talk_sent X κ c true 14 60 59 (by decide) (by decide) rfl rfl rfl) ?_
  refine lift_L (talk_recv X κ c true 14 60 59 rfl (by decide) (by decide) (by decide) rfl rfl rfl) ?_
  refine lift_R (talk_ack X κ c false 14 60 60 rfl (by decide) (Fin.ext (dev_left c)) rfl rfl) ?_
  refine lift_R (talk_credit X κ c false 14 61 60 rfl (by decide) (by decide) (by decide) rfl rfl rfl) ?_
  exact h

theorem part43 {kont} (h : St X w κ c 62 61 (.fly 15) (.done 14) (cov c 15 15) ⊢ WP c (kont ⟨⟩) Q) (c1_i32_1235 : BitVec 32):
    St X w κ c 61 61 (.ready 15) (.done 14) (cov c 14 14) ⊢ WP c (k0_part43 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (param c 1) (chk_right c) c1_i32_1235 >>= kont) Q := by
  rw [k0_part43_eq_skeleton]; unfold k0_part43_skel; simp only [semSignalWord, semWaitWord, smemLoad, Prog.lift, Prog.bind_op, Prog.bind_ret, Prog.pure_eq_ret, Prog.bind_assoc, wp_deviceId, smemLoadElt_bind]
  refine lift_R (talk_send X κ c false 15 61 61 rfl (by decide) (Fin.ext (dev_right c)) rfl rfl rfl rfl) ?_
  refine st_param X w κ c 16 (by decide) ?_
  refine st_assume X w κ c (chk_R c 14) ?_
  refine st_kept_R X w κ c 14 (load_squeeze c _ (fun _ => rfl) squeezes_S1x256x8192_S256x8192 _ _) ?_
  refine st_w X w κ c ?_
  refine st_peek X w κ c fun _ => ?_
  refine st_store X w κ c (src false c 15) (cov_R c 14 14) (off_R c 14) (gemm_slot w _) ?_
  refine st_param X w κ c 32 (by decide) ?_
  refine st_assume X w κ c (chk_L c 14) ?_
  refine st_done_L X w κ c 14 (load_squeeze c _ (fun _ => rfl) squeezes_S1x256x8192_S256x8192 _ _) ?_
  refine st_w X w κ c ?_
  refine st_peek X w κ c fun _ => ?_
  refine st_store X w κ c (src true c 15) (cov_L c 15 14) (off_L c 14) (gemm_slot w _) ?_
  exact h

end Cert.KernelIdeal

end
-- ==== Proof.Body.lean ====
/-
  The kernel's whole program, from the state at its start to the state at its end.
-/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]
variable (X : Dev nD → S256x8192.Idx → Elt F .f32) (w : S8192x128.Idx → Elt F .f32) (κ : GSem nD τ sig → ℕ) (c : Dev nD)
variable {α : Type} {Q : α → sProp (MT nD τ sig ℕ (Elt F) ℕ UU ℕ)}

theorem part44 {kont} (h : St X w κ c 62 61 (.sent 15) (.done 14) (cov c 15 15) ⊢ WP c (kont ⟨param c 1, 1#32⟩) Q) :
    St X w κ c 0 0 .pre .pre own0 ⊢ WP c (k0_part44 (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 >>= kont) Q := by
  rw [k0_part44_eq_skeleton]; unfold k0_part44_skel; simp only [Prog.lift, Prog.bind_op, Prog.bind_ret, Prog.pure_eq_ret, Prog.bind_assoc]
  refine part1 X w κ c (fun _ => ?_)
  dsimp only
  refine part2 X w κ c ?_ _
  refine part3 X w κ c ?_
  refine part4 X w κ c ?_
  refine part5 X w κ c (fun _ => ?_)
  dsimp only
  refine part6 X w κ c ?_ _ _
  dsimp only
  refine part7 X w κ c ?_
  refine part8 X w κ c ?_
  refine part9 X w κ c ?_
  dsimp only
  refine part10 X w κ c ?_
  refine part11 X w κ c (fun _ => ?_)
  refine part12 X w κ c ?_ _
  dsimp only
  refine part13 X w κ c ?_
  refine part14 X w κ c ?_
  refine part15 X w κ c ?_
  dsimp only
  refine part16 X w κ c ?_
  refine part17 X w κ c ?_
  refine part18 X w κ c ?_ _
  refine part19 X w κ c ?_
  refine part20 X w κ c ?_
  refine part21 X w κ c ?_
  refine part22 X w κ c (fun _ => ?_)
  dsimp only
  refine part23 X w κ c ?_ _ _
  dsimp only
  refine part24 X w κ c ?_
  refine part25 X w κ c ?_
  refine part26 X w κ c ?_
  dsimp only
  refine part27 X w κ c ?_
  refine part28 X w κ c (fun _ => ?_)
  refine part29 X w κ c ?_ _
  dsimp only
  refine part30 X w κ c ?_
  refine part31 X w κ c ?_
  refine part32 X w κ c ?_
  dsimp only
  refine part33 X w κ c ?_
  refine part34 X w κ c ?_
  refine part35 X w κ c ?_ _
  refine part36 X w κ c ?_
  refine part37 X w κ c ?_
  refine part38 X w κ c ?_
  refine part39 X w κ c (fun _ => ?_)
  dsimp only
  refine part40 X w κ c ?_ _ _
  dsimp only
  refine part41 X w κ c ?_
  refine part42 X w κ c ?_
  refine part43 X w κ c ?_ _
  refine lift_R (talk_sent X κ c false 15 62 61 (by decide) (by decide) rfl rfl rfl) ?_
  exact h

theorem body_run :
    St X w κ c 0 0 .pre .pre own0 ⊢ WP c (cc0_body (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) (fun _ => St X w κ c 62 62 (.done 15) (.done 14) (cov c 16 15)) := by
  rw [cc0_body_eq_skeleton]; unfold cc0_body_skel
  refine part44 X w κ c ?_
  simp only [semSignalWord, semWaitWord, smemLoad, Prog.lift, Prog.bind_op, Prog.bind_ret, Prog.pure_eq_ret, Prog.bind_assoc, wp_deviceId, smemLoadElt_bind]
  refine lift_R (talk_recv X κ c false 15 62 61 rfl (by decide) (by decide) (by decide) rfl rfl rfl) ?_
  refine st_param X w κ c 17 (by decide) ?_
  refine st_assume X w κ c (chk_R c 15) ?_
  refine st_done_R X w κ c 15 (load_squeeze c _ (fun _ => rfl) squeezes_S1x256x8192_S256x8192 _ _) ?_
  refine st_w X w κ c ?_
  refine st_peek X w κ c fun _ => ?_
  refine st_store X w κ c (src false c 16) (cov_R c 15 15) (off_R c 15) (gemm_slot w _) ?_
  exact fupd_intro

end Cert.KernelIdeal

end
-- ==== Proof.Region.lean ====
/-
  The kernel as the pipeline runs it on a device: its one point, what it finds staged and what it leaves.
-/
module

public import proofs.«01_k».proof.Proof.Params
public import proofs.«01_k».proof.Proof.Enter
public import proofs.«01_k».proof.Proof.Body
public import proofs.«01_k».proof.Proof.Gen.KernelIdeal.Points
public import proofs.«01_k».proof.Proof.Gen.KernelIdeal.Regions

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Gen

variable {F : FTy → Type} [FloatOps F]

local notation "𝕄" => MT nD τ sig ℕ (Elt F) ℕ UU ℕ

variable (m : (ℓ : Loc nD τ sig) → Buf (Elt F) ℓ)

/-- The block of rows and the block of columns of device `c`. -/
def xin (c : Dev nD) : S256x8192.Idx → Elt F .f32 := m ((c : Thread nD τ).loc main_arg0)
def wcol (c : Dev nD) : S8192x128.Idx → Elt F .f32 := m ((c : Thread nD τ).loc main_arg1)
/-- What the kernel leaves on device `c`. -/
def result (c : Dev nD) : S8192x128.Idx → Elt F .f32 := outv (xin m) (wcol m c)

theorem V9_arg0 (c : Dev nD) : V9 m c main_arg0 = xin m c :=
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem V9_arg1 (c : Dev nD) : V9 m c main_arg1 = wcol m c :=
  (V9_of m c main_arg1 (by decide)).trans <| (V8_of m c main_arg1 (by decide)).trans <| (V7_of m c main_arg1 (by decide)).trans <|
  (V6_of m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl

/-- What the kernel keeps beside its windows: before its point, and after. -/
def before0 (c : Dev nD) : sProp 𝕄 := iprop((scratch false c ∗ scratch true c) ∗ (∃ r, prngReg c r) ∗ ∃ κ, Ghost (xin m) κ c)
def after0 (c : Dev nD) : sProp 𝕄 :=
  iprop((scratch false c ∗ scratch true c) ∗ (∃ r, prngReg c r) ∗ Pipeline.ownSems0 osem c ∗ fam.barPos ER (rd (xin m)) c 1 ∅)

def dat0 (c : Dev nD) : Dat τ (Elt F) ℕ ℕ UU ℕ cfg0 c where
  A w := match w with
    | ⟨0, _⟩ => xin m c
    | ⟨1, _⟩ => wcol m c
    | ⟨2, _⟩ => words c
    | ⟨3, _⟩ => V9 m c main_v52
  after w _ := match w with
    | ⟨0, _⟩ => xin m c
    | ⟨1, _⟩ => wcol m c
    | ⟨2, _⟩ => words c
    | ⟨3, _⟩ => result m c
  Φ t := if t.val = 0 then before0 m c else after0 m c
  q _ := fullShare
  owed t := if t.val = 0 then owed c 0 else 0

def pdats : (p : Fin 1) → (c : Dev nD) → Dat τ (Elt F) ℕ ℕ UU ℕ (Pipeline.pin (pcfgs (F := F)) adm p) c
  | 0 => dat0 m

theorem before_x (c : Dev nD) (d : (cfg0.win 0).block.Idx → Elt F (cfg0.win 0).elt) : (dat0 m c).before 0 t0_0 d = xin m c := by
  unfold Dat.before; rw [if_pos (by decide)]
  funext y
  refine (rfl : _ = (xin m c : (cfg0.win 0).block.Idx → Elt F (cfg0.win 0).elt) (((cfg0.win 0).rect t0_0).emb y)).trans (congrArg _ (funext fun a => Fin.ext ?_))
  exact (cfg0.win 0).rect_emb_val_of_index_zero t0_0 a rfl y
theorem before_w (c : Dev nD) (d : (cfg0.win 1).block.Idx → Elt F (cfg0.win 1).elt) : (dat0 m c).before 1 t0_0 d = wcol m c := by
  unfold Dat.before; rw [if_pos (by decide)]
  funext y
  refine (rfl : _ = (wcol m c : (cfg0.win 1).block.Idx → Elt F (cfg0.win 1).elt) (((cfg0.win 1).rect t0_0).emb y)).trans (congrArg _ (funext fun a => Fin.ext ?_))
  exact (cfg0.win 1).rect_emb_val_of_index_zero t0_0 a rfl y
theorem before_p (c : Dev nD) (d : (cfg0.win 2).block.Idx → Elt F (cfg0.win 2).elt) : (dat0 m c).before 2 t0_0 d = words c := by
  unfold Dat.before; rw [if_pos (by decide)]
  funext y
  refine (rfl : _ = (words c : (cfg0.win 2).block.Idx → Elt F (cfg0.win 2).elt) (((cfg0.win 2).rect t0_0).emb y)).trans (congrArg _ (funext fun a => Fin.ext ?_))
  exact (cfg0.win 2).rect_emb_val_of_index_zero t0_0 a rfl y

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The kernel's run from what the pipeline hands it to what the pipeline takes back. -/
theorem kernel_run (c : Dev nD) :
    iprop(before0 m c ∗ Staged (xin m) (wcol m c) c ∗ (∃ f : oM.view.ty.Contents (Elt F), oM.view.loc (c : Thread nD τ) ↦[Finset.univ]{fullShare} f)
      ∗ ∃ W, owes (c : Thread nD τ) (owed c 0) W)
    ⊢ WP c (cc0_body (F := F) xM (Memref.isWhole_whole _) wM (Memref.isWhole_whole _) pM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun _ => iprop(after0 m c ∗ Staged (xin m) (wcol m c) c ∗ (oM.view.loc (c : Thread nD τ) ↦[Finset.univ]{fullShare} result m c)
        ∗ ∃ W, owes (c : Thread nD τ) (0 : CellTallies nD τ sig ℕ) W)) := by
  unfold before0
  iintro ⟨⟨Hs, Hp, %κ, Hg⟩, Hst, Ho, HO⟩
  iapply (wp_fupd frame (wpE (defs₀ (F := F)) 𝒱₀ (c : Thread nD τ) none) Set.univ _ _)
  iapply (wp_wand_r frame (wpE (defs₀ (F := F)) 𝒱₀ (c : Thread nD τ) none) Set.univ)
  isplitr [Hp]
  · iapply (body_run (xin m) (wcol m c) κ c)
    iapply (enter (xin m) (wcol m c) κ c)
    isplitl [Hg]; · iexact Hg
    isplitl [Hs]; · iexact Hs
    isplitl [Hst]; · iexact Hst
    isplitl [Ho] <;> iassumption
  iintro %a H
  imod (leave (xin m) (wcol m c) κ c) $$ H with ⟨Hs, Hos, Hb, Hst, Ho, HO⟩
  imodintro
  unfold after0
  isplitl [Hs Hp Hos Hb]
  · isplitl [Hs]; · iexact Hs
    isplitl [Hp]; · iexact Hp
    isplitl [Hos] <;> iassumption
  isplitl [Hst]; · iexact Hst
  isplitl [Ho]; · iexact Ho
  iexact HO

set_option maxRecDepth 4000 in
theorem body_obligation (c : Dev nD) : BodyObligation (dat0 (F := F) m c) (defs₀ (F := F)) 𝒱₀ 0 Set.univ := fun t => by
  obtain rfl := fin_N0 t
  rw [bigSep_W0, bigSep_W0]
  simp only [owns_whole_eq]
  rw [show (dat0 m c).Φ t0_0.castSucc = before0 m c from rfl, show (dat0 m c).Φ t0_0.succ = after0 m c from rfl]
  iintro ⟨HΦ, HO, ⟨%d0, %f0, %hf0, H0⟩, ⟨%d1, %f1, %hf1, H1⟩, ⟨%d2, %f2, %hf2, H2⟩, ⟨%d3, %f3, %hf3, H3⟩⟩
  rw [before_x] at hf0
  rw [before_w] at hf1
  rw [before_p] at hf2
  subst hf0 hf1 hf2
  iapply (wp_wand_r frame (wpE (defs₀ (F := F)) 𝒱₀ (c : Thread nD τ) none) Set.univ)
  isplitl [HΦ HO H0 H1 H2 H3]
  · iapply (kernel_run m c)
    isplitl [HΦ]; · iexact HΦ
    isplitl [H0 H1 H2]
    · unfold Staged
      rw [mp_whole, mp_whole, mp_whole]
      isplitl [H0]; · iexact H0
      isplitl [H1]; · iexact H1
      iexact H2
    isplitl [H3]
    · iexists f3; iexact H3
    unfold Dat.owesAt Pipeline.owesWithin
    icases HO with ⟨%W, -, HO⟩
    iexists W
    iexact HO
  iintro %a ⟨HΦ, Hst, H3, HO⟩
  isplitl [HΦ]; · iexact HΦ
  isplitl [HO]
  · unfold Dat.owesAt Pipeline.owesWithin
    icases HO with ⟨%W, HO⟩
    iexists W
    isplitr
    · ipureintro; exact fun _ _ => Or.inl trivial
    iexact HO
  unfold Staged
  rw [mp_whole, mp_whole, mp_whole]
  icases Hst with ⟨H0, H1, H2⟩
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.KernelIdeal

end
-- ==== Proof.Launch.lean ====
/-
  The kernel as a segment of the program: what a device carries into it, what it opens there, what it carries out.
-/
module

public import proofs.«01_k».proof.Proof.Region
public import Idealize.ShloMosaic.Lib.Pipeline.RegionTalk
public import Idealize.ShloMosaic.Lib.Pipeline.ValueKit.Geometry

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Gen

variable {F : FTy → Type} [FloatOps F]

local notation "𝕄" => MT nD τ sig ℕ (Elt F) ℕ UU ℕ

variable (m : (ℓ : Loc nD τ sig) → Buf (Elt F) ℓ)

/-- A token's semaphore, round and duty, whatever the device. -/
def tokS : Ent → List (SemLoc sig × ℕ × Bool)
  | (.put, d, h) => [(semOf (.put, d, h), rnd (.put, d, h), duty (.put, d, h)), ((sendCell 0 d (odd h)).2, h / 2, false)]
  | (.bar, d, h) => [(semOf (.bar, d, h), rnd (.bar, d, h), duty (.bar, d, h))]
  | (.ack, d, h) => [(semOf (.ack, d, h), rnd (.ack, d, h), duty (.ack, d, h))]

theorem tokL_map (c : Dev nD) (e : Ent) : (tokL c e).map (fun x => (x.1.2, x.2)) = tokS e := by
  obtain ⟨k, d, h⟩ := e; cases k <;> rfl

theorem toks_nodup (c : Dev nD) : (dues.flatMap (tokL c)).Nodup :=
  List.Nodup.of_map (fun x => (x.1.2, x.2)) (by
    rw [List.map_flatMap]
    simp only [tokL_map]
    decide +kernel)

/-- The devices that answer to `c`'s barrier signals. -/
def nbrs (c : Dev nD) : Finset (Dev nD) := {bw false c, bw true c}

/-- What device `c` carries from the launch to the kernel. -/
def Tk (c : Dev nD) : sProp 𝕄 :=
  iprop(fam.barPos ER (rd (xin m)) c 0 (nbrs c) ∗ fam.rides ER (rd (xin m)) c 0 ∗ creds c 0)
def Tk' (c : Dev nD) : sProp 𝕄 := fam.barPos ER (rd (xin m)) c 1 ∅

theorem nbrs_reached (c : Dev nD) : (bigSep (nbrs c) fun n => (reached ER (barCell n) 0 : sProp 𝕄))
    ⊢ iprop(reached ER (barCell (bw false c)) 0 ∗ reached ER (barCell (bw true c)) 0) := by
  have h0 : (bigSep (nbrs c) fun n => (reached ER (barCell n) 0 : sProp 𝕄)) ⊢ reached ER (barCell (bw false c)) 0 :=
    bigSep_elim (Finset.mem_insert_self _ _)
  have h1 : (bigSep (nbrs c) fun n => (reached ER (barCell n) 0 : sProp 𝕄)) ⊢ reached ER (barCell (bw true c)) 0 :=
    bigSep_elim (Finset.mem_insert_of_mem (Finset.mem_singleton_self _))
  iintro #H
  isplitr
  · iapply h0; iexact H
  · iapply h1; iexact H

theorem kernel_opens (c : Dev nD) : iprop(Tk m c ∗ Pipeline.ownSems0 osem c ∗ levAts LL lv) ⊢ iprop(|={Set.univ}=> ∃ κ, Ghost (xin m) κ c) := by
  unfold Tk Fam.barPos Fam.rides
  iintro ⟨⟨⟨-, Hat, Hr⟩, ⟨⟨%κ, #HI⟩, Ho, Ht⟩, Hc⟩, Hs, HL⟩
  ihave #HI' := (Entails.of_eq (invs_eq (xin m) κ).symm) $$ HI
  ihave Hs' := (ownSems_eq c).1 $$ Hs
  ihave Ho' := (inner_eq c fun g => openTok ER g) $$ [Ho]
  · iexact Ho
  icases Hs' with ⟨S0, S1⟩
  icases Ho' with ⟨O0, O1⟩
  imod (open_dir (xin m) κ c false) $$ [O0 S0] with P0
  · isplitr; · iexact HI'
    isplitl [O0] <;> iassumption
  imod (open_dir (xin m) κ c true) $$ [O1 S1] with P1
  · isplitr; · iexact HI'
    isplitl [O1] <;> iassumption
  imodintro
  iexists κ
  unfold Ghost
  isplitr; · iexact HI'
  isplitl [HL]; · rw [levels_eq]; iexact HL
  isplitl [Hr]
  · iapply (nbrs_reached c); iexact Hr
  isplitl [Hat]; · iexact Hat
  isplitl [Ht]
  · unfold toks
    iapply (Entails.of_eq (bigSep_eq_bigSepL_of_eq (dues.flatMap (tokL c)) rfl (toks_nodup c) fun x => dutyTok ER x.1 x.2.1 x.2.2))
    iexact Ht
  isplitl [Hc]; · iexact Hc
  isplitl [P0] <;> iassumption

/-- The result's array after the write-back. -/
theorem final_o (c : Dev nD) : (dat0 m c).arrAt 3 cfg0.N = result m c :=
  (dat0 m c).arrAt_eq_of_after_last 3 t0_0 (by decide +kernel) (result m c) fun _ => rfl

def outs : Outs (F := F) := fun _ r c => if h : r = main_v52 then h ▸ result m c else m ((c : Thread nD τ).loc r)
theorem outs_o (c : Dev nD) : outs m 10 main_v52 c = result m c := dif_pos rfl

theorem V10_o (c : Dev nD) : V10 m (outs m) c main_v52 = result m c := (Function.update_self ..).trans (outs_o m c)

theorem dues_ix : ∀ e ∈ dues, 0 < ix e ∧ ix e < NL := by decide +kernel

theorem cut : Pipeline.LevelCutOwed (pcfgs (F := F)) adm (pdats m) 0 LL lv 0 (fun _ => 0) where
  hι _ _ _ := SiteBlocks.mem_L' rfl (by decide)
  hιb _ _ _ := le_refl _
  hD c t g i h := by
    have h' : 0 < (if t.val = 0 then owed c 0 else 0) g i := h
    split at h'
    · obtain ⟨x, hx, rfl, rfl⟩ := TalkSites.tallyL_pos h'
      obtain ⟨e, he, rfl⟩ := List.mem_map.mp hx
      exact ⟨SiteBlocks.mem_L' rfl (dues_ix e he).2, (dues_ix e he).1⟩
    · exact absurd h' (Nat.lt_irrefl 0)

theorem own_facts : Pipeline.OwnSemFacts spec0 osem := by decide

/-- The buffers that are no window's. -/
def rest : Finset (DevRef τ sig) := Pipeline.ucRefs τ sig \ Pipeline.arrRefs (pcfgs (F := F) 0).spec

theorem arr_o : Proc.devRef (τ := τ) .tc main_v52 ∈ Pipeline.arrRefs (τ := τ) spec0 := by decide

def reg : Pipeline.RegionSeg (pcfgs (F := F)) adm (pdats m) 0 defs₀ 𝒱₀ LL lv 0 :=
  Pipeline.RegionSeg.ofTalk (pcfgs (F := F)) adm (pdats m) 0 defs₀ 𝒱₀ LL lv 0 osem own_facts
    ∅ (rest (F := F)) (Finset.empty_subset _) launch0.toP rfl (fun c => (body_obligation m c).loose)
    (fun _ => 0) (fun c => owed c 0) (fun c => (zero_add (owed c 0)).symm) (fun _ => rfl) (fun _ => rfl)
    (fun c => (dat0 m c).share_full fun _ => rfl)
    (V9 m) (V10 m (outs m))
    (fun c b hb => by
      unfold V10
      refine Function.update_of_ne (fun h => ?_) ..
      subst h
      exact absurd (Finset.mem_sdiff.mp (Finset.mem_sdiff.mp hb).1).2 (not_not.mpr arr_o))
    (Tk m) (Tk' m) (fun c => iprop(∃ κ, Ghost (xin m) κ c)) (Tk' m)
    (kernel_opens m)
    (fun c => by
      rw [show (pdats m 0 c).Φ 0 = before0 m c from rfl]
      unfold before0
      iintro ⟨Hs, Hp, -, Hg⟩
      isplitl [Hs]; · ihave Hs' := (Entails.of_eq (scopedRest0_eq c)) $$ Hs; iexact Hs'
      isplitl [Hp] <;> iassumption)
    (fun c => by
      rw [show (pdats m 0 c).Φ (Fin.last _) = after0 m c from rfl]
      unfold after0 Tk' StableHlo.held
      iintro ⟨Hs, Hp, Hos, Hb⟩
      isplitl [Hs]; · iapply (Entails.of_eq (scopedRest0_eq c).symm); iexact Hs
      isplitl [Hp]; · iexact Hp
      isplitr; · rw [bigSep_empty]; iempintro
      isplitl [Hos] <;> iassumption)
    (fun c => fupd_intro)
    (fun _ => 0) (cut m) (fun _ => iprop(emp))
    (fun c w => match w with
      | ⟨0, _⟩ => (V9_arg0 m c).symm
      | ⟨1, _⟩ => (V9_arg1 m c).symm
      | ⟨2, _⟩ => (V9_words m c).symm
      | ⟨3, _⟩ => rfl)
    (fun c w => match w with
      | ⟨0, _⟩ => ((dat0 m c).arrAt_in 0 rfl _).trans ((V10_of m (outs m) c main_arg0 (by decide)).trans (V9_arg0 m c)).symm
      | ⟨1, _⟩ => ((dat0 m c).arrAt_in 1 rfl _).trans ((V10_of m (outs m) c main_arg1 (by decide)).trans (V9_arg1 m c)).symm
      | ⟨2, _⟩ => ((dat0 m c).arrAt_in 2 rfl _).trans ((V10_of m (outs m) c main_v51 (by decide)).trans (V9_words m c)).symm
      | ⟨3, _⟩ => (final_o m c).trans (V10_o m c).symm)

end Cert.KernelIdeal

end
-- ==== Proof.Run.lean ====
/-
  The run of the whole program on the thirty-two devices.
-/
module

public import proofs.«01_k».proof.Proof.Launch

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)
open Idealize.ShloMosaic.TalkSites (Pay tallyL Fam)
open Gen

variable {F : FTy → Type} [FloatOps F]

local notation "𝕄" => MT nD τ sig ℕ (Elt F) ℕ UU ℕ

variable (m : (ℓ : Loc nD τ sig) → Buf (Elt F) ℓ) (ρ : Dev nD → PrngReg)

/-! ## The launch credit -/

/-- Every payment is some device's, whether counted by who pays or by who is paid. -/
theorem sum_pays (l : List Ent) : (∑ d : Dev nD, tallyL (l.map (pay d)) : CellTallies nD τ sig ℕ) = ∑ d : Dev nD, tallyL (l.map (due d)) := by
  induction l with
  | nil => rfl
  | cons e l ih =>
    simp only [List.map_cons, tallyL, Finset.sum_add_distrib]
    rw [ih]
    congr 1
    exact Equiv.sum_comp (⟨fun c => payee c e, fun c => payer c e, fun c => payer_payee c e, fun c => payee_payer c e⟩ : Dev nD ≃ Dev nD) fun c => (due c e).tally

theorem credit (c : Dev nD) : (Pipeline.launchCred (fun d => owed d 0) c : sProp 𝕄) = creds c 0 := by
  rw [Pipeline.launchCred_of_sum (fun d => owed d 0) (fun d => tallyL (dues.map (due d))) (sum_pays dues)
    (fun d g hg => by
      obtain ⟨i, hi⟩ := DFunLike.ne_iff.mp hg
      obtain ⟨x, hx, rfl, -⟩ := TalkSites.tallyL_pos (Nat.pos_of_ne_zero hi)
      obtain ⟨e, -, rfl⟩ := List.mem_map.mp hx
      rfl) c, TalkSites.cred_tallyL]
  rfl

/-! ## The launch -/

/-- The launch element: the staging cells' part, and the barrier and scratch semaphores'. -/
def u₀ : UU :=
  (initOf (Pipeline.cells cfgs cellOf_inj) (Pipeline.launchToks cfgs cellOf_inj), launchOf fam.S fam.Sd fam.T)

/-- A resource dealt whole to one device. -/
def onDev (c₀ : Dev nD) (R : sProp (MT nD τ sig ℕ (Elt F) ℕ UU ℕ)) (c : Dev nD) : sProp 𝕄 := if c = c₀ then R else iprop(emp)
theorem bigSep_onDev (c₀ : Dev nD) (R : sProp (MT nD τ sig ℕ (Elt F) ℕ UU ℕ)) : bigSep Finset.univ (onDev c₀ R) = R := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf fam.S fam.Sd fam.T)))

theorem launch_split : (ownU u₀ : sProp 𝕄) ⊢ iprop(|={Set.univ}=> (BI.own (EP (initOf (Pipeline.cells cfgs cellOf_inj) (Pipeline.launchToks cfgs cellOf_inj))) ∗ bigSep Finset.univ (G (F := F)))) := by
  unfold u₀ G
  iintro Hu
  ihave H := (ownU_pair _ _) $$ Hu
  icases H with ⟨HP, HX⟩
  imodintro
  isplitl [HP]; · iexact HP
  rw [bigSep_onDev]; iexact HX

theorem unscopedSems_bar (c : Dev nD) : (unscopedSems0 c : sProp 𝕄) = semVal (barCell c) 0 := by
  unfold unscopedSems0
  rw [bigSep_eq_bigSepL_of_eq [SemLoc.reg barrier0] (by decide) (by decide)]
  rfl

/-- What rides beside the held buffers: to the kernel, and after it. -/
def E : Fin 2 → Dev nD → sProp 𝕄
  | 0 => fun c => iprop((∃ r, prngReg c r) ∗ Tk m c ∗ ∃ W, owes (c : Thread nD τ) (owed c 0) W)
  | 1 => fun c => iprop(Tk' m c ∗ ∃ W, owes (c : Thread nD τ) (0 : CellTallies nD τ sig ℕ) W)

theorem init :
    iprop((bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ G c)) ∗ levAts LL lv)
      ⊢ iprop(|={Set.univ}=> bigSep Finset.univ fun c : Dev nD => (iprop(StableHlo.held (c : Thread nD τ) (Pipeline.ucRefs τ sig) (V0 m c) ∗ E m 0 c) : sProp 𝕄)) := by
  have hcore (c : Dev nD) : iprop(unscopedBufs c (fun b => m ((c.tc : Thread nD τ).loc b)) ∗ unscopedSems0 c
        ∗ owes (c.tc : Thread nD τ) (owed c 0) ∅ ∗ Pipeline.launchCred (fun d => owed d 0) c ∗ prngReg c (ρ c) ∗ G c)
      ⊢ (iprop((StableHlo.held (c : Thread nD τ) (Pipeline.ucRefs τ sig) (V0 m c) ∗ owes (c.tc : Thread nD τ) (owed c 0) ∅ ∗ prngReg c (ρ c) ∗ creds c 0)
          ∗ (semVal (barCell c) 0 ∗ Pipeline.launchCred (fun _ => 0) c) ∗ G c) : sProp 𝕄) := by
    have h0 : (Pipeline.launchCred (fun d => owed d 0) c : sProp 𝕄) ⊢ iprop(Pipeline.launchCred (fun _ => 0) c ∗ creds c 0) := by
      rw [← credit c]
      conv => lhs; rw [show (fun d : Dev nD => owed d 0) = fun d => 0 + owed d 0 from funext fun d => (zero_add _).symm, Pipeline.launchCred_add (fun _ => 0) (fun d => owed d 0) c]
    rw [show unscopedBufs c (fun b => m ((c.tc : Thread nD τ).loc b)) = StableHlo.held (c : Thread nD τ) (Pipeline.ucRefs τ sig) (V0 m c) from
      Pipeline.unscopedBufs_held c (V0 m c), unscopedSems_bar]
    iintro ⟨Hh, Hs, HO, Hc, Hp, HG⟩
    ihave Hc' := h0 $$ Hc
    icases Hc' with ⟨Hz, Hc⟩
    isplitl [Hh HO Hp Hc]
    · isplitl [Hh]; · iexact Hh
      isplitl [HO]; · iexact HO
      isplitl [Hp] <;> iassumption
    isplitl [Hs Hz]
    · isplitl [Hs] <;> iassumption
    iexact HG
  have hfin (c : Dev nD) : iprop((StableHlo.held (c : Thread nD τ) (Pipeline.ucRefs τ sig) (V0 m c) ∗ owes (c.tc : Thread nD τ) (owed c 0) ∅ ∗ prngReg c (ρ c) ∗ creds c 0)
        ∗ fam.launched ER (rd (xin m)) nbrs c)
      ⊢ (iprop(StableHlo.held (c : Thread nD τ) (Pipeline.ucRefs τ sig) (V0 m c) ∗ E m 0 c) : sProp 𝕄) := by
    have hr : (bigSep Finset.univ fun j => fam.rides ER (rd (xin m)) c j) ⊢ (fam.rides ER (rd (xin m)) c 0 : sProp 𝕄) := bigSep_elim (Finset.mem_univ 0)
    unfold Fam.launched
    show _ ⊢ iprop(_ ∗ (∃ r, prngReg c r) ∗ Tk m c ∗ ∃ W, owes (c : Thread nD τ) (owed c 0) W)
    unfold Tk
    iintro ⟨⟨Hh, HO, Hp, Hc⟩, Hb, Hr⟩
    ihave Hr' := hr $$ Hr
    isplitl [Hh]; · iexact Hh
    isplitl [Hp]; · iexists (ρ c); iexact Hp
    isplitl [Hb Hr' Hc]
    · isplitl [Hb]; · iexact Hb
      isplitl [Hr'] <;> iassumption
    iexists ∅; iexact HO
  have hall : (bigSep Finset.univ fun c : Dev nD => iprop(unscopedBufs c (fun b => m ((c.tc : Thread nD τ).loc b)) ∗ unscopedSems0 c
        ∗ owes (c.tc : Thread nD τ) (owed c 0) ∅ ∗ Pipeline.launchCred (fun d => owed d 0) c ∗ prngReg c (ρ c) ∗ G c))
      ⊢ (bigSep Finset.univ fun c : Dev nD => iprop((StableHlo.held (c : Thread nD τ) (Pipeline.ucRefs τ sig) (V0 m c) ∗ owes (c.tc : Thread nD τ) (owed c 0) ∅ ∗ prngReg c (ρ c) ∗ creds c 0)
          ∗ (semVal (barCell c) 0 ∗ Pipeline.launchCred (fun _ => 0) c) ∗ G c) : sProp 𝕄) := bigSep_mono fun c _ => hcore c
  have hend : (bigSep Finset.univ fun c : Dev nD => iprop((StableHlo.held (c : Thread nD τ) (Pipeline.ucRefs τ sig) (V0 m c) ∗ owes (c.tc : Thread nD τ) (owed c 0) ∅ ∗ prngReg c (ρ c) ∗ creds c 0)
        ∗ fam.launched ER (rd (xin m)) nbrs c))
      ⊢ (bigSep Finset.univ fun c : Dev nD => iprop(StableHlo.held (c : Thread nD τ) (Pipeline.ucRefs τ sig) (V0 m c) ∗ E m 0 c) : sProp 𝕄) := bigSep_mono fun c _ => hfin c
  iintro ⟨H, -⟩
  ihave H' := hall $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (G (F := F)) ⊢ BI.own (ER (launchOf fam.S fam.Sd fam.T)) from
    Entails.of_eq (bigSep_onDev (F := F) 0 (BI.own (ER (launchOf fam.S fam.Sd fam.T))))) $$ HG
  imod (fam.funds ER (rd (xin m)) (fun _ _ h => h) nbrs (Es := Set.univ)) $$ [Hv Hu] with HL
  · isplitl [Hv]; · iexact Hv
    iexact Hu
  imodintro
  iapply hend
  iapply (Entails.of_eq (bigSep_sep' ..).symm)
  isplitl [HB] <;> iassumption

/-! ## The kernel in the chain -/

theorem uc_split (c : Dev nD) (V : Valuation τ sig (Elt F)) :
    (StableHlo.held (c : Thread nD τ) (Pipeline.ucRefs τ sig) V : sProp 𝕄)
      = iprop(StableHlo.held (c : Thread nD τ) (Pipeline.arrRefs (τ := τ) (pcfgs (F := F) 0).spec) V ∗ StableHlo.held (c : Thread nD τ) (rest (F := F)) V) :=
  StableHlo.held_sub_split (c : Thread nD τ) (Pipeline.arrRefs_sub_ucRefs spec0 (by decide)) V

theorem reg_pre (c : Dev nD) : iprop(StableHlo.held (c : Thread nD τ) (Pipeline.ucRefs τ sig) (V9 m c) ∗ E m 0 c) ⊢ (reg m).pre c := by
  show iprop(_ ∗ (∃ r, prngReg c r) ∗ Tk m c ∗ ∃ W, owes (c : Thread nD τ) (owed c 0) W)
    ⊢ iprop(StableHlo.held (c.tc : Thread nD τ) (Pipeline.arrRefs (pcfgs (F := F) 0).spec) (V9 m c) ∗ (∃ r, prngReg c r)
      ∗ (StableHlo.held (c.tc : Thread nD τ) (rest (F := F)) (V9 m c) ∗ emp) ∗ Tk m c ∗ ∃ Wd, owes (c : Thread nD τ) (0 + owed c 0) Wd)
  rw [uc_split, zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V10 m (outs m) c) ∗ E m 1 c) := by
  show iprop(StableHlo.held (c.tc : Thread nD τ) (Pipeline.arrRefs (pcfgs (F := F) 0).spec) (V10 m (outs m) c) ∗ (∃ r, prngReg c r)
      ∗ (StableHlo.held (c.tc : Thread nD τ) (rest (F := F)) (V10 m (outs m) c) ∗ emp) ∗ Tk' m c ∗ ∃ Wd, owes (c : Thread nD τ) (0 : CellTallies nD τ sig ℕ) Wd)
    ⊢ iprop(_ ∗ Tk' m c ∗ ∃ W, owes (c : Thread nD τ) (0 : CellTallies nD τ sig ℕ) W)
  rw [uc_split]
  iintro ⟨Ha, -, ⟨Hr, -⟩, HT, HO⟩
  isplitl [Ha Hr]
  · isplitl [Ha] <;> iassumption
  isplitl [HT] <;> iassumption

theorem unscoped_bar : ∀ sm : SemLoc sig, sm.isScoped .tc = false → sm = .reg barrier0 := by decide

theorem uc_mem (b : Ref sig .tc) (h : ¬(Proc.devRef (τ := τ) .tc b).isScoped = true) : Proc.devRef (τ := τ) .tc b ∈ Pipeline.ucRefs τ sig :=
  Finset.mem_filter.mpr ⟨StableHlo.devRef_mem_tcRefs b, h⟩

set_option backward.isDefEq.respectTransparency.types false in
/-- Every fair run of the program ends: on every device the arguments as given, the result the kernel's, every
    semaphore back at zero. -/
theorem run_main : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v52) = result m c) ∧ r.2.sem = fun _ => 0) := by
  refine Pipeline.θ_run_regions_kit_dev_sems (pcfgs (F := F)) adm (pdats m) 0 cellOf_inj EP defs₀ 𝒱₀ LL lv m ρ main
    (segs m 𝒱₀ LL lv (E m) 0 (pdats m) (reg m))
    (fun c Q => by
      rewrite [main_chain c, Seg.run_eq_chain,
        show (segs m 𝒱₀ LL lv (E m) 0 (pdats m) (reg m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide)
    (fun c => owed c 0) (SiteBlocks.hL NL) G u₀ launch_split
    (T₀ := fun c => iprop(StableHlo.held (c : Thread nD τ) (Pipeline.ucRefs τ sig) (V0 m c) ∗ E m 0 c))
    (Tₙ := fun c => iprop(StableHlo.held (c : Thread nD τ) (Pipeline.ucRefs τ sig) (V10 m (outs m) c) ∗ Tk' m c))
    (hch := fun c => ⟨.rfl, .rfl, .rfl, .rfl, .rfl, .rfl, .rfl, .rfl, .rfl, reg_pre m c, (reg_post m c).trans (by unfold E; exact Laws.sep_assoc.2)⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v52) = result m c) ∧ s.sem (barCell c) = 0)
    (hfin := fun c s' => ?_)
    (hQ := fun s h hs => ⟨fun c => (h c).1, sem_eq_zero hs fun c sm hsm => by
      obtain rfl := unscoped_bar sm hsm
      exact (h c).2⟩)
  unfold StableHlo.held Tk'
  iintro ⟨⟨Hh, Hb⟩, HSI⟩
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imod (fam.barPos_read ER (rd (xin m)) c (r := 1) (late_bar (xin m) c 1 (le_refl 1)) ∅ s') $$ [Hb HSI] with ⟨%hb, HSI⟩
  · isplitl [Hb] <;> iassumption
  imodintro
  isplitr
  · ipureintro
    exact ⟨⟨(h (Proc.devRef .tc main_arg0) (uc_mem main_arg0 (by decide))).trans (V10_main_arg0 m (outs m) c),
      (h (Proc.devRef .tc main_arg1) (uc_mem main_arg1 (by decide))).trans (V10_main_arg1 m (outs m) c),
      (h (Proc.devRef .tc main_v52) (uc_mem main_v52 (by decide))).trans (V10_o m c)⟩, hb⟩
  · iexact HSI

end Cert.KernelIdeal

end
-- ==== Proof.Blocks.lean ====
/-
  What the kernel and the reference compute over the reals, entry by entry: rows times columns, summed.
-/
module

public import proofs.«01_k».proof.Proof.Open
public import proofs.«01_k».proof.Proof.Gen.ReferenceIdeal
public import Idealize.ShloMosaic.Lib.StackMember
public import Idealize.ShloMosaic.Lib.KernelVsHost
public import Idealize.ShloMosaic.Lib.Pipeline.Value

@[expose] public section

noncomputable section

namespace Cert.KernelIdeal

open Idealize.ShloMosaic Idealize.ShloMosaic.TcCoe Idealize.ShloMosaic.ValueIdx
open Gen
open scoped BigOperators

/-- A block's product, entry by entry. -/
theorem gemm_apply (x : S256x8192.Idx → Elt Ideal .f32) (w : S8192x128.Idx → Elt Ideal .f32) (a : Fin 256) (b : Fin 128) :
    gemm (F := Ideal) x w (ix2 a b) = ∑ k : Fin 8192, x (ix2 a k) * w (ix2 k b) := by
  have h : gemm (F := Ideal) x w = Host.dotGeneral (F := Ideal) (φ₁ := .f32) (φ₂ := .f32) (DotDims.plain 256 8192 128) none x w := by
    unfold gemm k0_pay2
    simp only [shapeCast_self]
    rw [← matmul_zero_eq_dotGeneral (φ₁ := .f32) (φ₂ := .f32) (DotDims.plain 256 8192 128) none x w]; rfl
  rw [h]
  exact StackMember.dotGeneral_plain_apply (φ₁ := .f32) (φ₂ := .f32) none x w a b

/-- The reference's product, entry by entry. -/
theorem ref_apply (x : ReferenceIdeal.S8192x8192.Idx → Elt Ideal .f32) (w : ReferenceIdeal.S8192x4096.Idx → Elt Ideal .f32) (a : Fin 8192) (b : Fin 4096) :
    Host.dotGeneral (F := Ideal) (φ₁ := .f32) (φ₂ := .f32) ReferenceIdeal.dot_S8192x8192_S8192x4096_S8192x4096_1_0_0_1_n_n none x w (ix2 a b)
      = ∑ k : Fin 8192, x (ix2 a k) * w (ix2 k b) :=
  StackMember.dotGeneral_plain_apply (φ₁ := .f32) (φ₂ := .f32) none x w a b

/-- The devices' blocks of rows, each times device `c`'s columns, are device `c`'s columns of the whole product. -/
theorem outv_block (x : ReferenceIdeal.S8192x8192.Idx → Elt Ideal .f32) (w : ReferenceIdeal.S8192x4096.Idx → Elt Ideal .f32)
    (X : Dev nD → S256x8192.Idx → Elt Ideal .f32) (hX : ∀ o : Dev nD, X o = Layout.block ⟨2, ![256, 8192]⟩ ⟨2, ![8192, 8192]⟩ 0 32 o x)
    (c : Dev nD) (wc : S8192x128.Idx → Elt Ideal .f32) (hw : wc = Layout.block ⟨2, ![8192, 128]⟩ ⟨2, ![8192, 4096]⟩ 1 32 c w) :
    outv X wc = Layout.block ⟨2, ![8192, 128]⟩ ⟨2, ![8192, 4096]⟩ 1 32 c
      (Host.dotGeneral (F := Ideal) (φ₁ := .f32) (φ₂ := .f32) ReferenceIdeal.dot_S8192x8192_S8192x4096_S8192x4096_1_0_0_1_n_n none x w) := by
  funext i
  rw [Layout.block_apply]
  unfold outv
  have e1 (j : S256x128.Idx) : j = ix2 (j 0) (j 1) := eq_ix2 j
  have e2 (j : ReferenceIdeal.S8192x4096.Idx) : j = ix2 (j 0) (j 1) := eq_ix2 j
  conv => lhs; rw [e1 (inBlock i)]
  conv => rhs; rw [e2 (Layout.Tiles.idx _ c i)]
  refine (gemm_apply _ _ _ _).trans (Eq.trans ?_ (ref_apply x w _ _).symm)
  refine Finset.sum_congr rfl fun k _ => ?_
  rw [hX, hw, Layout.block_apply, Layout.block_apply]
  have hi1 : (i 1 : ℕ) < 128 := (i 1).isLt
  refine congrArg₂ (· * ·) (congrArg x (funext fun a => Fin.ext ?_)) (congrArg w (funext fun a => Fin.ext ?_))
  · match a with
    | ⟨0, _⟩ => exact (show (i 0 : ℕ) / 256 * 256 + (i 0 : ℕ) % 256 = (i 0 : ℕ) from Nat.div_add_mod' _ _)
    | ⟨1, _⟩ => rfl
  · match a with
    | ⟨0, _⟩ => rfl
    | ⟨1, _⟩ => exact (show c.val * 128 + (i 1 : ℕ) % 128 = c.val * 128 + (i 1 : ℕ) by rw [Nat.mod_eq_of_lt hi1])

end Cert.KernelIdeal

end
-- ==== Proof.lean ====
/- The certificate of the bidirectional ring all-gather product on thirty-two devices.

   The kernel's run is proved once, for the idealized program and over any floats (`KernelIdeal.run_main`, Proof/Run.lean). At the
   machine's floats it is the frame of the kernel as printed, whose text is the same; at the extended reals it is the frame of the
   idealized kernel and, with the equation of Proof/Blocks.lean, its agreement with the reference's one product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Blocks
public import Idealize.ShloMosaic.Lib.Tactic
public import Idealize.ShloMosaic.Adequacy
public import Idealize.ShloMosaic.Init

@[expose] public section

noncomputable section

namespace Cert.Proof

open Idealize.ShloMosaic Idealize.SL.Sem Cert.Kernel

/-- What the idealized program's run keeps, said at the machine's floats. -/
def KeptIdeal (m : (ℓ : Loc Cert.KernelIdeal.nD Cert.KernelIdeal.τ Cert.KernelIdeal.sig) → Buf (Elt Bits) ℓ)
    (g : Dev Cert.KernelIdeal.nD → PrngReg) : Prop :=
  θ_run (Cert.KernelIdeal.defs (F := Bits)) (onTc (τ := Cert.KernelIdeal.τ) (Cert.KernelIdeal.main (F := Bits))) ⟨m, fun _ => 0, g⟩
    (fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1))
      ∧ r.2.sem = fun _ => 0)

/-- It keeps all of that: the run, with the result's value dropped. -/
theorem keptIdeal (m) (g) : KeptIdeal m g :=
  (θ_run (Cert.KernelIdeal.defs (F := Bits)) _ _).mono (fun _ h => ⟨fun c => ⟨(h.1 c).1, (h.1 c).2.1⟩, h.2⟩)
    (Cert.KernelIdeal.run_main (F := Bits) m g)

/-- The claim on the kernel as printed is the same proposition: the two programs have one text. -/
theorem frame_kernel_eq : Cert.quiescent_Kernel = (∀ m g, Cert.Pre_Kernel m → KeptIdeal m g) := by
  sl_kernel_rfl

/-- The kernel as printed: the idealized program's run at the machine's floats. -/
theorem frame_kernel : Cert.quiescent_Kernel :=
  frame_kernel_eq.mpr fun m g _ => keptIdeal m g

/-- The idealized kernel: the same run at the extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩)
    (Cert.KernelIdeal.run_main (F := Ideal) m ρ)

/-- The reference is host code: its run keeps its arguments, and it declares no semaphore. -/
theorem frame_reference : Cert.quiescent_ReferenceIdeal := fun m ρ _ =>
  (θ_run (Cert.ReferenceIdeal.defs (F := Ideal)) _ _).mono
    (fun r h => ⟨fun c => ⟨(h c).2.1, (h c).2.2⟩, sem_eq_zero_of_no_sems (by decide) r.2⟩)
    (Cert.ReferenceIdeal.Value.run (F := Ideal) m ρ)

/-- Device `c`'s result is block `c`, by columns, of the reference's product of the whole arrays. -/
theorem algebraic : Cert.algebraic_KernelIdeal_ReferenceIdeal := fun m ρ m' ρ' _ h =>
  ⟨_, (θ_run (Cert.KernelIdeal.defs (F := Ideal)) _ _).mono
      (fun _ hr c => ⟨((hr.1 c).2.2).trans (Cert.KernelIdeal.outv_block _ _ _ (fun o => (h o).1) c _ (h c).2), (hr.1 c).1, (hr.1 c).2.1⟩)
      (Cert.KernelIdeal.run_main (F := Ideal) m ρ),
    (θ_run (Cert.ReferenceIdeal.defs (F := Ideal)) _ _).mono (fun _ hr => hr 0) (Cert.ReferenceIdeal.Value.run (F := Ideal) m' ρ')⟩

/-- The whole certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
